-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x13312 : Shape := ⟨3, ![256, 1, 13312]⟩
abbrev S13312x4096x3 : Shape := ⟨3, ![13312, 4096, 3]⟩
abbrev S16384 : Shape := ⟨1, ![16384]⟩
abbrev S256x13312 : Shape := ⟨2, ![256, 13312]⟩
abbrev S3x13312x4096 : Shape := ⟨3, ![3, 13312, 4096]⟩
abbrev S4096x4 : Shape := ⟨2, ![4096, 4]⟩
abbrev S4x4096 : Shape := ⟨2, ![4, 4096]⟩
abbrev S256x16384 : Shape := ⟨2, ![256, 16384]⟩
abbrev S256x1024 : Shape := ⟨2, ![256, 1024]⟩
abbrev S3x1024x256 : Shape := ⟨3, ![3, 1024, 256]⟩
abbrev S4x256 : Shape := ⟨2, ![4, 256]⟩
abbrev S4x256x256 : Shape := ⟨3, ![4, 256, 256]⟩
abbrev S1x1024x256 : Shape := ⟨3, ![1, 1024, 256]⟩
abbrev S1024x256 : Shape := ⟨2, ![1024, 256]⟩
abbrev S256x256 : Shape := ⟨2, ![256, 256]⟩
abbrev S1x256x256 : Shape := ⟨3, ![1, 256, 256]⟩
abbrev S1x256x128 : Shape := ⟨3, ![1, 256, 128]⟩
abbrev S256x128 : Shape := ⟨2, ![256, 128]⟩
abbrev S1x128 : Shape := ⟨2, ![1, 128]⟩
abbrev S256x128x1 : Shape := ⟨3, ![256, 128, 1]⟩
abbrev S256x1x16384 : Shape := ⟨3, ![256, 1, 16384]⟩

abbrev nBuf : Space → Nat
  | .hbm => 9
  | .vmem => 9
  | .smem => 0
  | _ => 0

abbrev bufTy : (tb : Table) → Fin (tcTables nBuf tb) → BufTy
  | .hbm, ⟨0, _⟩ => ⟨S256x1x13312, .bf16⟩
  | .hbm, ⟨1, _⟩ => ⟨S13312x4096x3, .i8⟩
  | .hbm, ⟨2, _⟩ => ⟨S16384, .f32⟩
  | .hbm, ⟨3, _⟩ => ⟨S256x13312, .bf16⟩
  | .hbm, ⟨4, _⟩ => ⟨S3x13312x4096, .i8⟩
  | .hbm, ⟨5, _⟩ => ⟨S4096x4, .f32⟩
  | .hbm, ⟨6, _⟩ => ⟨S4x4096, .f32⟩
  | .hbm, ⟨7, _⟩ => ⟨S256x16384, .bf16⟩
  | .hbm, ⟨8, _⟩ => ⟨S256x1x16384, .bf16⟩
  | .local _ .vmem, ⟨0, _⟩ => ⟨S256x1024, .bf16⟩
  | .local _ .vmem, ⟨1, _⟩ => ⟨S256x1024, .bf16⟩
  | .local _ .vmem, ⟨2, _⟩ => ⟨S3x1024x256, .i8⟩
  | .local _ .vmem, ⟨3, _⟩ => ⟨S3x1024x256, .i8⟩
  | .local _ .vmem, ⟨4, _⟩ => ⟨S4x256, .f32⟩
  | .local _ .vmem, ⟨5, _⟩ => ⟨S4x256, .f32⟩
  | .local _ .vmem, ⟨6, _⟩ => ⟨S256x1024, .bf16⟩
  | .local _ .vmem, ⟨7, _⟩ => ⟨S256x1024, .bf16⟩
  | .local _ .vmem, ⟨8, _⟩ => ⟨S4x256x256, .f32⟩
  | _, _ => ⟨S256x1x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 13], ![false, false]⟩

def k0_cond1 (i : grid0.Coords) : BitVec 1 :=
  let arg1 : BitVec 32 := BitVec.ofNat 32 (i 1).val
  let c12_i32 : BitVec 32 := 12#32
  let v96 : BitVec 1 := Scalar.cmpi .eq arg1 c12_i32
  let v97 : BitVec 32 := Scalar.extui v96
  let c0_i32_44 : BitVec 32 := 0#32
  let v98 : BitVec 1 := Scalar.cmpi .ne v97 c0_i32_44
  v98

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3x1024x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S256x1x13312 : Shape := ⟨3, ![256, 1, 13312]⟩
abbrev S13312x4096x3 : Shape := ⟨3, ![13312, 4096, 3]⟩
abbrev S16384 : Shape := ⟨1, ![16384]⟩
abbrev S13312x4096x1 : Shape := ⟨3, ![13312, 4096, 1]⟩
abbrev S13312x4096 : Shape := ⟨2, ![13312, 4096]⟩
abbrev S_ : Shape := ⟨0, ![]⟩
abbrev S256x1x4096 : Shape := ⟨3, ![256, 1, 4096]⟩
abbrev S256x1x4096x1 : Shape := ⟨4, ![256, 1, 4096, 1]⟩
abbrev S256x1x4096x4 : Shape := ⟨4, ![256, 1, 4096, 4]⟩
abbrev S256x1x16384 : Shape := ⟨3, ![256, 1, 16384]⟩
abbrev S1x1x16384 : Shape := ⟨3, ![1, 1, 16384]⟩

abbrev nBuf : Space → Nat
  | .hbm => 220
  | .vmem => 0
  | .smem => 0
  | _ => 0

abbrev hbmTy0_0 (i : Nat) : BufTy := match i % 128 with
  | 0 => ⟨S256x1x13312, .bf16⟩
  | 1 => ⟨S13312x4096x3, .i8⟩
  | 2 => ⟨S16384, .f32⟩
  | 3 => ⟨S13312x4096x3, .i32⟩
  | 4 => ⟨S13312x4096x1, .i32⟩
  | 5 => ⟨S13312x4096, .i32⟩
  | 6 => ⟨S13312x4096x1, .i32⟩
  | 7 => ⟨S13312x4096, .i32⟩
  | 8 => ⟨S_, .i32⟩
  | 9 => ⟨S13312x4096, .i32⟩
  | 10 => ⟨S13312x4096, .i32⟩
  | 11 => ⟨S13312x4096, .i32⟩
  | 12 => ⟨S13312x4096x1, .i32⟩
  | 13 => ⟨S13312x4096, .i32⟩
  | 14 => ⟨S_, .i32⟩
  | 15 => ⟨S13312x4096, .i32⟩
  | 16 => ⟨S13312x4096, .i32⟩
  | 17 => ⟨S13312x4096, .i32⟩
  | 18 => ⟨S_, .i32⟩
  | 19 => ⟨S13312x4096, .i32⟩
  | 20 => ⟨S13312x4096, .i32⟩
  | 21 => ⟨S_, .i32⟩
  | 22 => ⟨S13312x4096, .i32⟩
  | 23 => ⟨S13312x4096, .i32⟩
  | 24 => ⟨S_, .i32⟩
  | 25 => ⟨S13312x4096, .i32⟩
  | 26 => ⟨S13312x4096, .i32⟩
  | 27 => ⟨S13312x4096, .f32⟩
  | 28 => ⟨S_, .i32⟩
  | 29 => ⟨S13312x4096, .i32⟩
  | 30 => ⟨S13312x4096, .i32⟩
  | 31 => ⟨S_, .i32⟩
  | 32 => ⟨S13312x4096, .i32⟩
  | 33 => ⟨S13312x4096, .i32⟩
  | 34 => ⟨S13312x4096, .i32⟩
  | 35 => ⟨S_, .i32⟩
  | 36 => ⟨S13312x4096, .i32⟩
  | 37 => ⟨S13312x4096, .i32⟩
  | 38 => ⟨S13312x4096, .f32⟩
  | 39 => ⟨S_, .i32⟩
  | 40 => ⟨S13312x4096, .i32⟩
  | 41 => ⟨S13312x4096, .i1⟩
  | 42 => ⟨S_, .f32⟩
  | 43 => ⟨S13312x4096, .f32⟩
  | 44 => ⟨S13312x4096, .f32⟩
  | 45 => ⟨S_, .f32⟩
  | 46 => ⟨S13312x4096, .f32⟩
  | 47 => ⟨S13312x4096, .f32⟩
  | 48 => ⟨S_, .i32⟩
  | 49 => ⟨S13312x4096, .i32⟩
  | 50 => ⟨S13312x4096, .i32⟩
  | 51 => ⟨S13312x4096, .f32⟩
  | 52 => ⟨S13312x4096, .f32⟩
  | 53 => ⟨S_, .f32⟩
  | 54 => ⟨S13312x4096, .f32⟩
  | 55 => ⟨S13312x4096, .f32⟩
  | 56 => ⟨S13312x4096, .f32⟩
  | 57 => ⟨S_, .f32⟩
  | 58 => ⟨S13312x4096, .f32⟩
  | 59 => ⟨S13312x4096, .f32⟩
  | 60 => ⟨S_, .f32⟩
  | 61 => ⟨S13312x4096, .f32⟩
  | 62 => ⟨S13312x4096, .f32⟩
  | 63 => ⟨S13312x4096, .f32⟩
  | 64 => ⟨S13312x4096, .bf16⟩
  | 65 => ⟨S256x1x4096, .f32⟩
  | 66 => ⟨S_, .i32⟩
  | 67 => ⟨S13312x4096, .i32⟩
  | 68 => ⟨S13312x4096, .i32⟩
  | 69 => ⟨S_, .i32⟩
  | 70 => ⟨S13312x4096, .i32⟩
  | 71 => ⟨S13312x4096, .i32⟩
  | 72 => ⟨S_, .i32⟩
  | 73 => ⟨S13312x4096, .i32⟩
  | 74 => ⟨S13312x4096, .i32⟩
  | 75 => ⟨S13312x4096, .f32⟩
  | 76 => ⟨S_, .i32⟩
  | 77 => ⟨S13312x4096, .i32⟩
  | 78 => ⟨S13312x4096, .i32⟩
  | 79 => ⟨S_, .i32⟩
  | 80 => ⟨S13312x4096, .i32⟩
  | 81 => ⟨S13312x4096, .i32⟩
  | 82 => ⟨S13312x4096, .i32⟩
  | 83 => ⟨S_, .i32⟩
  | 84 => ⟨S13312x4096, .i32⟩
  | 85 => ⟨S13312x4096, .i32⟩
  | 86 => ⟨S13312x4096, .f32⟩
  | 87 => ⟨S_, .i32⟩
  | 88 => ⟨S13312x4096, .i32⟩
  | 89 => ⟨S13312x4096, .i1⟩
  | 90 => ⟨S_, .f32⟩
  | 91 => ⟨S13312x4096, .f32⟩
  | 92 => ⟨S13312x4096, .f32⟩
  | 93 => ⟨S_, .f32⟩
  | 94 => ⟨S13312x4096, .f32⟩
  | 95 => ⟨S13312x4096, .f32⟩
  | 96 => ⟨S_, .i32⟩
  | 97 => ⟨S13312x4096, .i32⟩
  | 98 => ⟨S13312x4096, .i32⟩
  | 99 => ⟨S13312x4096, .f32⟩
  | 100 => ⟨S13312x4096, .f32⟩
  | 101 => ⟨S_, .f32⟩
  | 102 => ⟨S13312x4096, .f32⟩
  | 103 => ⟨S13312x4096, .f32⟩
  | 104 => ⟨S13312x4096, .f32⟩
  | 105 => ⟨S_, .f32⟩
  | 106 => ⟨S13312x4096, .f32⟩
  | 107 => ⟨S13312x4096, .f32⟩
  | 108 => ⟨S_, .f32⟩
  | 109 => ⟨S13312x4096, .f32⟩
  | 110 => ⟨S13312x4096, .f32⟩
  | 111 => ⟨S13312x4096, .f32⟩
  | 112 => ⟨S13312x4096, .bf16⟩
  | 113 => ⟨S256x1x4096, .f32⟩
  | 114 => ⟨S_, .i32⟩
  | 115 => ⟨S13312x4096, .i32⟩
  | 116 => ⟨S13312x4096, .i32⟩
  | 117 => ⟨S_, .i32⟩
  | 118 => ⟨S13312x4096, .i32⟩
  | 119 => ⟨S13312x4096, .i32⟩
  | 120 => ⟨S_, .i32⟩
  | 121 => ⟨S13312x4096, .i32⟩
  | 122 => ⟨S13312x4096, .i32⟩
  | 123 => ⟨S13312x4096, .f32⟩
  | 124 => ⟨S_, .i32⟩
  | 125 => ⟨S13312x4096, .i32⟩
  | 126 => ⟨S13312x4096, .i32⟩
  | 127 => ⟨S_, .i32⟩
  | _ => ⟨S256x1x13312, .bf16⟩

abbrev hbmTy0_1 (i : Nat) : BufTy := match i % 128 with
  | 0 => ⟨S13312x4096, .i32⟩
  | 1 => ⟨S13312x4096, .i32⟩
  | 2 => ⟨S13312x4096, .i32⟩
  | 3 => ⟨S_, .i32⟩
  | 4 => ⟨S13312x4096, .i32⟩
  | 5 => ⟨S13312x4096, .i32⟩
  | 6 => ⟨S13312x4096, .f32⟩
  | 7 => ⟨S_, .i32⟩
  | 8 => ⟨S13312x4096, .i32⟩
  | 9 => ⟨S13312x4096, .i1⟩
  | 10 => ⟨S_, .f32⟩
  | 11 => ⟨S13312x4096, .f32⟩
  | 12 => ⟨S13312x4096, .f32⟩
  | 13 => ⟨S_, .f32⟩
  | 14 => ⟨S13312x4096, .f32⟩
  | 15 => ⟨S13312x4096, .f32⟩
  | 16 => ⟨S_, .i32⟩
  | 17 => ⟨S13312x4096, .i32⟩
  | 18 => ⟨S13312x4096, .i32⟩
  | 19 => ⟨S13312x4096, .f32⟩
  | 20 => ⟨S13312x4096, .f32⟩
  | 21 => ⟨S_, .f32⟩
  | 22 => ⟨S13312x4096, .f32⟩
  | 23 => ⟨S13312x4096, .f32⟩
  | 24 => ⟨S13312x4096, .f32⟩
  | 25 => ⟨S_, .f32⟩
  | 26 => ⟨S13312x4096, .f32⟩
  | 27 => ⟨S13312x4096, .f32⟩
  | 28 => ⟨S_, .f32⟩
  | 29 => ⟨S13312x4096, .f32⟩
  | 30 => ⟨S13312x4096, .f32⟩
  | 31 => ⟨S13312x4096, .f32⟩
  | 32 => ⟨S13312x4096, .bf16⟩
  | 33 => ⟨S256x1x4096, .f32⟩
  | 34 => ⟨S_, .i32⟩
  | 35 => ⟨S13312x4096, .i32⟩
  | 36 => ⟨S13312x4096, .i32⟩
  | 37 => ⟨S_, .i32⟩
  | 38 => ⟨S13312x4096, .i32⟩
  | 39 => ⟨S13312x4096, .i32⟩
  | 40 => ⟨S_, .i32⟩
  | 41 => ⟨S13312x4096, .i32⟩
  | 42 => ⟨S13312x4096, .i32⟩
  | 43 => ⟨S13312x4096, .f32⟩
  | 44 => ⟨S_, .i32⟩
  | 45 => ⟨S13312x4096, .i32⟩
  | 46 => ⟨S13312x4096, .i32⟩
  | 47 => ⟨S_, .i32⟩
  | 48 => ⟨S13312x4096, .i32⟩
  | 49 => ⟨S13312x4096, .i32⟩
  | 50 => ⟨S13312x4096, .i32⟩
  | 51 => ⟨S_, .i32⟩
  | 52 => ⟨S13312x4096, .i32⟩
  | 53 => ⟨S13312x4096, .i32⟩
  | 54 => ⟨S13312x4096, .f32⟩
  | 55 => ⟨S_, .i32⟩
  | 56 => ⟨S13312x4096, .i32⟩
  | 57 => ⟨S13312x4096, .i1⟩
  | 58 => ⟨S_, .f32⟩
  | 59 => ⟨S13312x4096, .f32⟩
  | 60 => ⟨S13312x4096, .f32⟩
  | 61 => ⟨S_, .f32⟩
  | 62 => ⟨S13312x4096, .f32⟩
  | 63 => ⟨S13312x4096, .f32⟩
  | 64 => ⟨S_, .i32⟩
  | 65 => ⟨S13312x4096, .i32⟩
  | 66 => ⟨S13312x4096, .i32⟩
  | 67 => ⟨S13312x4096, .f32⟩
  | 68 => ⟨S13312x4096, .f32⟩
  | 69 => ⟨S_, .f32⟩
  | 70 => ⟨S13312x4096, .f32⟩
  | 71 => ⟨S13312x4096, .f32⟩
  | 72 => ⟨S13312x4096, .f32⟩
  | 73 => ⟨S_, .f32⟩
  | 74 => ⟨S13312x4096, .f32⟩
  | 75 => ⟨S13312x4096, .f32⟩
  | 76 => ⟨S_, .f32⟩
  | 77 => ⟨S13312x4096, .f32⟩
  | 78 => ⟨S13312x4096, .f32⟩
  | 79 => ⟨S13312x4096, .f32⟩
  | 80 => ⟨S13312x4096, .bf16⟩
  | 81 => ⟨S256x1x4096, .f32⟩
  | 82 => ⟨S256x1x4096x1, .f32⟩
  | 83 => ⟨S256x1x4096x1, .f32⟩
  | 84 => ⟨S256x1x4096x1, .f32⟩
  | 85 => ⟨S256x1x4096x1, .f32⟩
  | 86 => ⟨S256x1x4096x4, .f32⟩
  | 87 => ⟨S256x1x16384, .f32⟩
  | 88 => ⟨S1x1x16384, .f32⟩
  | 89 => ⟨S256x1x16384, .f32⟩
  | 90 => ⟨S256x1x16384, .f32⟩
  | 91 => ⟨S256x1x16384, .bf16⟩
  | _ => ⟨S256x1x13312, .bf16⟩

abbrev hbmTy (i : Nat) : BufTy := match i / 128 with
  | 0 => hbmTy0_0 i
  | 1 => hbmTy0_1 i
  | _ => ⟨S256x1x13312, .bf16⟩

abbrev bufTy : (tb : Table) → Fin (tcTables nBuf tb) → BufTy
  | .hbm, ⟨i, _⟩ => hbmTy i
  | _, _ => ⟨S256x1x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_cst_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_13 : Ref sig .tc := ⟨.hbm, 66, rfl⟩
abbrev main_v48 : Ref sig .tc := ⟨.hbm, 67, rfl⟩
abbrev main_v49 : Ref sig .tc := ⟨.hbm, 68, rfl⟩
abbrev main_c_14 : Ref sig .tc := ⟨.hbm, 69, rfl⟩
abbrev main_v50 : Ref sig .tc := ⟨.hbm, 70, rfl⟩
abbrev main_v51 : Ref sig .tc := ⟨.hbm, 71, rfl⟩
abbrev main_c_15 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_16 : Ref sig .tc := ⟨.hbm, 76, rfl⟩
abbrev main_v55 : Ref sig .tc := ⟨.hbm, 77, rfl⟩
abbrev main_v56 : Ref sig .tc := ⟨.hbm, 78, rfl⟩
abbrev main_c_17 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_18 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_19 : Ref sig .tc := ⟨.hbm, 87, rfl⟩
abbrev main_v63 : Ref sig .tc := ⟨.hbm, 88, rfl⟩
abbrev main_v64 : Ref sig .tc := ⟨.hbm, 89, rfl⟩
abbrev main_cst_20 : Ref sig .tc := ⟨.hbm, 90, rfl⟩
abbrev main_v65 : Ref sig .tc := ⟨.hbm, 91, rfl⟩
abbrev main_v66 : Ref sig .tc := ⟨.hbm, 92, rfl⟩
abbrev main_cst_21 : Ref sig .tc := ⟨.hbm, 93, rfl⟩
abbrev main_v67 : Ref sig .tc := ⟨.hbm, 94, rfl⟩
abbrev main_v68 : Ref sig .tc := ⟨.hbm, 95, rfl⟩
abbrev main_c_22 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_23 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_24 : Ref sig .tc := ⟨.hbm, 105, rfl⟩
abbrev main_v76 : Ref sig .tc := ⟨.hbm, 106, rfl⟩
abbrev main_v77 : Ref sig .tc := ⟨.hbm, 107, rfl⟩
abbrev main_cst_25 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_26 : Ref sig .tc := ⟨.hbm, 114, rfl⟩
abbrev main_v83 : Ref sig .tc := ⟨.hbm, 115, rfl⟩
abbrev main_v84 : Ref sig .tc := ⟨.hbm, 116, rfl⟩
abbrev main_c_27 : Ref sig .tc := ⟨.hbm, 117, rfl⟩
abbrev main_v85 : Ref sig .tc := ⟨.hbm, 118, rfl⟩
abbrev main_v86 : Ref sig .tc := ⟨.hbm, 119, rfl⟩
abbrev main_c_28 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_29 : Ref sig .tc := ⟨.hbm, 124, rfl⟩
abbrev main_v90 : Ref sig .tc := ⟨.hbm, 125, rfl⟩
abbrev main_v91 : Ref sig .tc := ⟨.hbm, 126, rfl⟩
abbrev main_c_30 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_31 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c_32 : Ref sig .tc := ⟨.hbm, 135, rfl⟩
abbrev main_v98 : Ref sig .tc := ⟨.hbm, 136, rfl⟩
abbrev main_v99 : Ref sig .tc := ⟨.hbm, 137, rfl⟩
abbrev main_cst_33 : Ref sig .tc := ⟨.hbm, 138, rfl⟩
abbrev main_v100 : Ref sig .tc := ⟨.hbm, 139, rfl⟩
abbrev main_v101 : Ref sig .tc := ⟨.hbm, 140, rfl⟩
abbrev main_cst_34 : Ref sig .tc := ⟨.hbm, 141, rfl⟩
abbrev main_v102 : Ref sig .tc := ⟨.hbm, 142, rfl⟩
abbrev main_v103 : Ref sig .tc := ⟨.hbm, 143, rfl⟩
abbrev main_c_35 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_36 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_37 : Ref sig .tc := ⟨.hbm, 153, rfl⟩
abbrev main_v111 : Ref sig .tc := ⟨.hbm, 154, rfl⟩
abbrev main_v112 : Ref sig .tc := ⟨.hbm, 155, rfl⟩
abbrev main_cst_38 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_39 : Ref sig .tc := ⟨.hbm, 162, rfl⟩
abbrev main_v118 : Ref sig .tc := ⟨.hbm, 163, rfl⟩
abbrev main_v119 : Ref sig .tc := ⟨.hbm, 164, rfl⟩
abbrev main_c_40 : Ref sig .tc := ⟨.hbm, 165, rfl⟩
abbrev main_v120 : Ref sig .tc := ⟨.hbm, 166, rfl⟩
abbrev main_v121 : Ref sig .tc := ⟨.hbm, 167, rfl⟩
abbrev main_c_41 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_c_42 : Ref sig .tc := ⟨.hbm, 172, rfl⟩
abbrev main_v125 : Ref sig .tc := ⟨.hbm, 173, rfl⟩
abbrev main_v126 : Ref sig .tc := ⟨.hbm, 174, rfl⟩
abbrev main_c_43 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_c_44 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_c_45 : Ref sig .tc := ⟨.hbm, 183, rfl⟩
abbrev main_v133 : Ref sig .tc := ⟨.hbm, 184, rfl⟩
abbrev main_v134 : Ref sig .tc := ⟨.hbm, 185, rfl⟩
abbrev main_cst_46 : Ref sig .tc := ⟨.hbm, 186, rfl⟩
abbrev main_v135 : Ref sig .tc := ⟨.hbm, 187, rfl⟩
abbrev main_v136 : Ref sig .tc := ⟨.hbm, 188, rfl⟩
abbrev main_cst_47 : Ref sig .tc := ⟨.hbm, 189, rfl⟩
abbrev main_v137 : Ref sig .tc := ⟨.hbm, 190, rfl⟩
abbrev main_v138 : Ref sig .tc := ⟨.hbm, 191, rfl⟩
abbrev main_c_48 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_49 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_cst_50 : Ref sig .tc := ⟨.hbm, 201, rfl⟩
abbrev main_v146 : Ref sig .tc := ⟨.hbm, 202, rfl⟩
abbrev main_v147 : Ref sig .tc := ⟨.hbm, 203, rfl⟩
abbrev main_cst_51 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩

abbrev nD : Nat := 1
abbrev τ : Topo := Topo.v7x

variable {F : FTy → Type} [FloatOps F]
-- ==== Proof.Words.Point.lean ====
/- One grid point of the kernel, run symbolically: what the body's stores leave in the accumulator and in the output. -/
module

public import proofs.«01_k».proof.Proof.Gen.Kernel.Frame
public import proofs.«01_k».proof.Proof.Gen.Kernel.Skeleton

@[expose] public section

set_option maxRecDepth 16384

noncomputable section

namespace Cert.Kernel.Fp6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the proof term of a run is large: the definition's epilogue walks it past the default budget)
set_option maxHeartbeats 1000000 in
/-- One grid point that is not the last of its sweep: from the inputs at their blocks, the output at anything and the
    accumulator at `xs0`, the body ends with the inputs and the output as they were and the accumulator with the
    pieces written that the run finds. -/
def runMid (c : Dev nD) (i : grid0.Coords) (arg2 : Memref sig .tc .vmem S256x1024 .bf16) (harg2 : arg2.IsWhole) (arg3 : Memref sig .tc .vmem S3x1024x256 .i8) (harg3 : arg3.IsWhole) (arg4 : Memref sig .tc .vmem S4x256 .f32) (harg4 : arg4.IsWhole) (arg5 : Memref sig .tc .vmem S256x1024 .bf16) (harg5 : arg5.IsWhole) (arg6 : Memref sig .tc .vmem S4x256x256 .f32) (harg6 : arg6.IsWhole) (hc1 : ¬k0_cond1 i = 1#1)
    (x0 : Vec F S256x1024 .bf16) (x1 : Vec F S3x1024x256 .i8) (x2 : Vec F S4x256 .f32) (xs0 : Vec F S4x256x256 .f32) :
    { LS0 : List (View.Piece (Elt F) S4x256x256 .f32) //
      ∀ (xi3 : Vec F S256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_fp6_linear i arg2 harg2 arg3 harg3 arg4 harg4 arg5 harg5 arg6 harg6) K } := by
  refine ⟨?_, fun xi3 E K => ?run⟩
  case run =>
    simp only [cc0_fp6_linear_eq_skeleton]; unfold cc0_fp6_linear_skel
    simp only [k0_part11_eq_skeleton, k0_part12_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The last grid point of a sweep: as `runMid`, and the output's buffer ends with the pieces written that the run
    finds. -/
def runLast (c : Dev nD) (i : grid0.Coords) (arg2 : Memref sig .tc .vmem S256x1024 .bf16) (harg2 : arg2.IsWhole) (arg3 : Memref sig .tc .vmem S3x1024x256 .i8) (harg3 : arg3.IsWhole) (arg4 : Memref sig .tc .vmem S4x256 .f32) (harg4 : arg4.IsWhole) (arg5 : Memref sig .tc .vmem S256x1024 .bf16) (harg5 : arg5.IsWhole) (arg6 : Memref sig .tc .vmem S4x256x256 .f32) (harg6 : arg6.IsWhole) (hc1 : k0_cond1 i = 1#1)
    (x0 : Vec F S256x1024 .bf16) (x1 : Vec F S3x1024x256 .i8) (x2 : Vec F S4x256 .f32) (xs0 : Vec F S4x256x256 .f32) :
    Σ' (L3 : List (View.Piece (Elt F) S256x1024 .bf16)), { LS0 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_fp6_linear i arg2 harg2 arg3 harg3 arg4 harg4 arg5 harg5 arg6 harg6) K } := by
  refine ⟨?_, ?_, fun E K => ?run⟩
  case run =>
    simp only [cc0_fp6_linear_eq_skeleton]; unfold cc0_fp6_linear_skel
    simp only [k0_part11_eq_skeleton, k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fp6

end
-- ==== Proof.Words.Step.lean ====
/- The accumulator a grid point leaves and the output block a sweep leaves, as functions of the blocks read. -/
module

public import proofs.«01_k».proof.Proof.Words.Point

@[expose] public section

set_option maxRecDepth 16384

noncomputable section

namespace Cert.Kernel.Fp6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The accumulator after a point -/

/-- The activations' block as the body loads it. -/
abbrev ldX (x0 : Vec F S256x1024 .bf16) : Vec F S256x1024 .bf16 :=
  View.ld x0 (Rect.unit ![0, 0] S256x1024.size inb_S256x1024_S256x1024_0_0)
/-- The three byte planes as the body loads them. -/
abbrev ldP0 (x1 : Vec F S3x1024x256 .i8) : Vec F S1x1024x256 .i8 :=
  View.ld x1 (Rect.unit ![0, 0, 0] S1x1024x256.size inb_S3x1024x256_S1x1024x256_0_0_0)
/-- The second plane of the block. -/
abbrev ldP1 (x1 : Vec F S3x1024x256 .i8) : Vec F S1x1024x256 .i8 :=
  View.ld x1 (Rect.unit ![1, 0, 0] S1x1024x256.size inb_S3x1024x256_S1x1024x256_1_0_0)
/-- The third plane of the block. -/
abbrev ldP2 (x1 : Vec F S3x1024x256 .i8) : Vec F S1x1024x256 .i8 :=
  View.ld x1 (Rect.unit ![2, 0, 0] S1x1024x256.size inb_S3x1024x256_S1x1024x256_2_0_0)

/-- The stores a point makes into the accumulator, last first: one slice per field. -/
def accPieces (k : BitVec 32) (x0 : Vec F S256x1024 .bf16) (x1 : Vec F S3x1024x256 .i8) (xs : Vec F S4x256x256 .f32) :
    List (View.Piece (Elt F) S4x256x256 .f32) :=
  [⟨Rect.unit ![3, 0, 0] ![1, 256, 256] inb_S4x256x256_S1x256x256_3_0_0,
      k0_pay3 k (k0_pay70 (k0_pay64 (ldP2 x1))) (k0_pay71 (ldX x0))
        (View.ld xs (Rect.unit ![3, 0, 0] ![1, 256, 256] inb_S4x256x256_S1x256x256_3_0_0))⟩,
   ⟨Rect.unit ![2, 0, 0] ![1, 256, 256] inb_S4x256x256_S1x256x256_2_0_0,
      k0_pay2 k (k0_pay69 (k0_pay67 (ldP1 x1) (ldP2 x1)) k0_pay68) (k0_pay71 (ldX x0))
        (View.ld xs (Rect.unit ![2, 0, 0] ![1, 256, 256] inb_S4x256x256_S1x256x256_2_0_0))⟩,
   ⟨Rect.unit ![1, 0, 0] ![1, 256, 256] inb_S4x256x256_S1x256x256_1_0_0,
      k0_pay1 (k0_pay73 (k0_pay66 (ldP0 x1) (ldP1 x1)) (ldX x0)) (Scalar.cmpi .eq k 0#32)
        (k0_pay74 (k0_pay66 (ldP0 x1) (ldP1 x1)) (ldX x0)
          (View.ld xs (Rect.unit ![1, 0, 0] S1x256x256.size inb_S4x256x256_S1x256x256_1_0_0)))⟩,
   ⟨Rect.unit ![0, 0, 0] S1x256x256.size inb_S4x256x256_S1x256x256_0_0_0,
      k0_pay72 k (k0_pay65 (ldP0 x1)) (ldX x0)
        (View.ld xs (Rect.unit ![0, 0, 0] S1x256x256.size inb_S4x256x256_S1x256x256_0_0_0))⟩]

/-- The accumulator after a point, from the point's blocks and the accumulator before it. -/
def accStep (k : BitVec 32) (x0 : Vec F S256x1024 .bf16) (x1 : Vec F S3x1024x256 .i8) (xs : Vec F S4x256x256 .f32) :
    Vec F S4x256x256 .f32 := View.canon (accPieces k x0 x1 xs)

/-- The four slices cover the accumulator. -/
theorem accPieces_cover (k : BitVec 32) (x0 : Vec F S256x1024 .bf16) (x1 : Vec F S3x1024x256 .i8) (xs : Vec F S4x256x256 .f32)
    (y : S4x256x256.Idx) : ∃ pc ∈ accPieces k x0 x1 xs, y ∈ pc.1.set :=
  View.cover_of_tiledL (accPieces k x0 x1 xs) S1x256x256.size (by sl_kernel_rfl) y

/-- At the first point of a sweep the accumulator is stored, not added to: what it held does not matter. -/
theorem accStep_first (k : BitVec 32) (hk : k = 0#32) (x0 : Vec F S256x1024 .bf16) (x1 : Vec F S3x1024x256 .i8)
    (xs xs' : Vec F S4x256x256 .f32) : accStep k x0 x1 xs = accStep k x0 x1 xs' := by
  have hsel : ∀ a b : FVec F S256x256 .f32, Scalar.select (Scalar.cmpi .eq (0#32) 0#32) a b = a := fun a b =>
    if_pos (by decide)
  subst hk
  simp only [accStep, accPieces, k0_pay1, k0_pay2, k0_pay3, k0_pay72, hsel]

/-! ## The output block -/

/-- A field's outputs in lanes 0 to 127 of the block, scaled and rounded. -/
def yLo0 (a : Vec F S4x256x256 .f32) (x2 : Vec F S4x256 .f32) : FVec F S256x128 .f32 :=
  k0_pay8 (View.ld a (Rect.unit ![0, 0, 0] S1x256x128.size inb_S4x256x256_S1x256x128_0_0_0))
    (View.ld x2 (Rect.unit ![0, 0] S1x128.size inb_S4x256_S1x128_0_0))
/-- The same of the second field. -/
def yLo1 (a : Vec F S4x256x256 .f32) (x2 : Vec F S4x256 .f32) : FVec F S256x128 .f32 :=
  k0_pay9 (View.ld a (Rect.unit ![1, 0, 0] S1x256x128.size inb_S4x256x256_S1x256x128_1_0_0))
    (View.ld x2 (Rect.unit ![1, 0] S1x128.size inb_S4x256_S1x128_1_0))
/-- The same of the third field. -/
def yLo2 (a : Vec F S4x256x256 .f32) (x2 : Vec F S4x256 .f32) : FVec F S256x128 .f32 :=
  k0_pay10 (View.ld a (Rect.unit ![2, 0, 0] S1x256x128.size inb_S4x256x256_S1x256x128_2_0_0))
    (View.ld x2 (Rect.unit ![2, 0] S1x128.size inb_S4x256_S1x128_2_0))
/-- The accumulator of the fourth field, low half. -/
def yLo3a (a : Vec F S4x256x256 .f32) : FVec F S256x128 .f32 :=
  k0_pay11 (View.ld a (Rect.unit ![3, 0, 0] S1x256x128.size inb_S4x256x256_S1x256x128_3_0_0))
/-- The scales of the fourth field, low half. -/
def yLo3s (x2 : Vec F S4x256 .f32) : FVec F S1x128 .f32 :=
  k0_pay12 (View.ld x2 (Rect.unit ![3, 0] S1x128.size inb_S4x256_S1x128_3_0))
/-- The same of the fourth field. -/
def yLo3 (a : Vec F S4x256x256 .f32) (x2 : Vec F S4x256 .f32) : FVec F S256x128 .f32 := k0_pay13 (yLo3a a) (yLo3s x2)
/-- The same in lanes 128 to 255. -/
def yHi0 (a : Vec F S4x256x256 .f32) (x2 : Vec F S4x256 .f32) : FVec F S256x128 .f32 :=
  k0_pay35 (View.ld a (Rect.unit ![0, 0, 128] S1x256x128.size inb_S4x256x256_S1x256x128_0_0_128))
    (View.ld x2 (Rect.unit ![0, 128] S1x128.size inb_S4x256_S1x128_0_128))
/-- The same of the second field. -/
def yHi1 (a : Vec F S4x256x256 .f32) (x2 : Vec F S4x256 .f32) : FVec F S256x128 .f32 :=
  k0_pay36 (View.ld a (Rect.unit ![1, 0, 128] S1x256x128.size inb_S4x256x256_S1x256x128_1_0_128))
    (View.ld x2 (Rect.unit ![1, 128] S1x128.size inb_S4x256_S1x128_1_128))
/-- The same of the third field. -/
def yHi2 (a : Vec F S4x256x256 .f32) (x2 : Vec F S4x256 .f32) : FVec F S256x128 .f32 :=
  k0_pay38 (k0_pay37 (View.ld a (Rect.unit ![2, 0, 128] S1x256x128.size inb_S4x256x256_S1x256x128_2_0_128)))
    (View.ld x2 (Rect.unit ![2, 128] S1x128.size inb_S4x256_S1x128_2_128))
/-- The same of the fourth field. -/
def yHi3 (a : Vec F S4x256x256 .f32) (x2 : Vec F S4x256 .f32) : FVec F S256x128 .f32 :=
  k0_pay39 (View.ld a (Rect.unit ![3, 0, 128] S1x256x128.size inb_S4x256x256_S1x256x128_3_0_128))
    (View.ld x2 (Rect.unit ![3, 128] S1x128.size inb_S4x256_S1x128_3_128))
/-- The lane number, as the body counts it. -/
abbrev lanes : IVec S256x128 32 := iota Kind.tc S256x128 32 [1] iota_S256x128_d1_w32

/-- The eight interleaved groups of 128 output columns. -/
def grp0 (a : Vec F S4x256x256 .f32) (x2 : Vec F S4x256 .f32) : FVec F S256x128 .bf16 :=
  k0_pay31 (k0_pay20 k0_pay14 (k0_pay16 (yLo2 a x2)) (k0_pay17 (yLo3a a) (yLo3s x2)) (k0_pay18 (yLo0 a x2) (yLo1 a x2)) k0_pay19)
/-- Group 1 of 128 output columns. -/
def grp1 (a : Vec F S4x256x256 .f32) (x2 : Vec F S4x256 .f32) : FVec F S256x128 .bf16 :=
  k0_pay32 (k0_pay24 k0_pay14 (k0_pay22 (yLo0 a x2) (yLo1 a x2) lanes k0_pay14) (k0_pay23 (yLo2 a x2) (yLo3 a x2) lanes k0_pay14))
/-- Group 2 of 128 output columns. -/
def grp2 (a : Vec F S4x256x256 .f32) (x2 : Vec F S4x256 .f32) : FVec F S256x128 .bf16 :=
  k0_pay33 (k0_pay29 k0_pay14 (k0_pay26 (yLo0 a x2) (yLo1 a x2) lanes k0_pay14) (k0_pay27 (yLo2 a x2) (yLo3 a x2) lanes k0_pay14) k0_pay28)
/-- Group 3 of 128 output columns. -/
def grp3 (a : Vec F S4x256x256 .f32) (x2 : Vec F S4x256 .f32) : FVec F S256x128 .bf16 :=
  k0_pay34 (k0_pay30 (yLo0 a x2) (yLo1 a x2) (yLo2 a x2) (yLo3 a x2) lanes k0_pay14)
/-- Group 4 of 128 output columns. -/
def grp4 (a : Vec F S4x256x256 .f32) (x2 : Vec F S4x256 .f32) : FVec F S256x128 .bf16 :=
  k0_pay4 (k0_pay46 (yHi2 a x2) (yHi3 a x2) k0_pay40 k0_pay41 (k0_pay42 (yHi0 a x2)) (k0_pay43 (yHi1 a x2)) k0_pay44 k0_pay45)
/-- Group 5 of 128 output columns. -/
def grp5 (a : Vec F S4x256x256 .f32) (x2 : Vec F S4x256 .f32) : FVec F S256x128 .bf16 :=
  k0_pay5 (k0_pay51 (yHi2 a x2) (yHi3 a x2) k0_pay40 (k0_pay47 lanes) (k0_pay48 (yHi0 a x2) lanes) (k0_pay49 (yHi1 a x2) lanes) (k0_pay50 lanes))
/-- Group 6 of 128 output columns. -/
def grp6 (a : Vec F S4x256x256 .f32) (x2 : Vec F S4x256 .f32) : FVec F S256x128 .bf16 :=
  k0_pay6 (k0_pay56 (yHi3 a x2) k0_pay40 (k0_pay52 lanes) (k0_pay53 (yHi0 a x2) lanes) (k0_pay54 (yHi1 a x2) lanes) (k0_pay55 (yHi2 a x2) lanes))
/-- Group 7 of 128 output columns. -/
def grp7 (a : Vec F S4x256x256 .f32) (x2 : Vec F S4x256 .f32) : FVec F S256x128 .bf16 :=
  k0_pay7 (yHi3 a x2) k0_pay40 (k0_pay57 lanes) (k0_pay58 (yHi0 a x2) lanes) (k0_pay59 (yHi1 a x2) lanes) (k0_pay60 (yHi2 a x2) lanes) k0_pay61

/-- The stores the last point of a sweep makes into the output block, last first. -/
def outPieces (a : Vec F S4x256x256 .f32) (x2 : Vec F S4x256 .f32) : List (View.Piece (Elt F) S256x1024 .bf16) :=
  [⟨Rect.unit ![0, 896] ![256, 128] inb_S256x1024_S256x128_0_896, grp7 a x2⟩,
   ⟨Rect.unit ![0, 768] ![256, 128] inb_S256x1024_S256x128_0_768, grp6 a x2⟩,
   ⟨Rect.unit ![0, 640] ![256, 128] inb_S256x1024_S256x128_0_640, grp5 a x2⟩,
   ⟨Rect.unit ![0, 512] ![256, 128] inb_S256x1024_S256x128_0_512, grp4 a x2⟩,
   ⟨Rect.unit ![0, 384] S256x128.size inb_S256x1024_S256x128_0_384, grp3 a x2⟩,
   ⟨Rect.unit ![0, 256] S256x128.size inb_S256x1024_S256x128_0_256, grp2 a x2⟩,
   ⟨Rect.unit ![0, 128] S256x128.size inb_S256x1024_S256x128_0_128, grp1 a x2⟩,
   ⟨Rect.unit ![0, 0] S256x128.size inb_S256x1024_S256x128_0_0, grp0 a x2⟩]

/-- The output block a sweep leaves, from its accumulator and the scales' block. -/
def outBlock (a : Vec F S4x256x256 .f32) (x2 : Vec F S4x256 .f32) : Vec F S256x1024 .bf16 := View.canon (outPieces a x2)

/-- The eight groups cover the output block. -/
theorem outPieces_cover (a : Vec F S4x256x256 .f32) (x2 : Vec F S4x256 .f32) (y : S256x1024.Idx) :
    ∃ pc ∈ outPieces a x2, y ∈ pc.1.set :=
  View.cover_of_tiledL (outPieces a x2) S256x128.size (by sl_kernel_rfl) y

/-! ## What the runs find is these -/

section
variable (c : Dev nD) (i : grid0.Coords) (arg2 : Memref sig .tc .vmem S256x1024 .bf16) (harg2 : arg2.IsWhole) (arg3 : Memref sig .tc .vmem S3x1024x256 .i8) (harg3 : arg3.IsWhole) (arg4 : Memref sig .tc .vmem S4x256 .f32) (harg4 : arg4.IsWhole) (arg5 : Memref sig .tc .vmem S256x1024 .bf16) (harg5 : arg5.IsWhole) (arg6 : Memref sig .tc .vmem S4x256x256 .f32) (harg6 : arg6.IsWhole)
  (x0 : Vec F S256x1024 .bf16) (x1 : Vec F S3x1024x256 .i8) (x2 : Vec F S4x256 .f32) (xs0 : Vec F S4x256x256 .f32)

/-- The pieces of `runMid`. -/
theorem runMid_pieces (hc1 : ¬k0_cond1 i = 1#1) :
    (runMid c i arg2 harg2 arg3 harg3 arg4 harg4 arg5 harg5 arg6 harg6 hc1 x0 x1 x2 xs0).1
      = accPieces (BitVec.ofNat 32 (i 1).val) x0 x1 xs0 := by
  unfold runMid
  sl_unfold_words
  simp only [View.readAt_eq_ld, Memref.IsWhole.read_unread]
  rfl

/-- The accumulator's pieces of `runLast`. -/
theorem runLast_acc (hc1 : k0_cond1 i = 1#1) :
    (runLast c i arg2 harg2 arg3 harg3 arg4 harg4 arg5 harg5 arg6 harg6 hc1 x0 x1 x2 xs0).2.1
      = accPieces (BitVec.ofNat 32 (i 1).val) x0 x1 xs0 := by
  unfold runLast
  sl_unfold_words
  simp only [View.readAt_eq_ld, Memref.IsWhole.read_unread]
  rfl

/-- The output's pieces of `runLast`: from the accumulator the point leaves. -/
theorem runLast_out (hc1 : k0_cond1 i = 1#1) :
    (runLast c i arg2 harg2 arg3 harg3 arg4 harg4 arg5 harg5 arg6 harg6 hc1 x0 x1 x2 xs0).1
      = outPieces (accStep (BitVec.ofNat 32 (i 1).val) x0 x1 xs0) x2 := by
  have hacc : runLast.sl.HS0_4 c i arg2 harg2 arg3 harg3 arg6 harg6 x0 x1 xs0 = accPieces (BitVec.ofNat 32 (i 1).val) x0 x1 xs0 :=
    runLast_acc c i arg2 harg2 arg3 harg3 arg4 harg4 arg5 harg5 arg6 harg6 x0 x1 x2 xs0 hc1
  unfold runLast
  unfold runLast.sl.r_43 runLast.sl.r_42 runLast.sl.r_41 runLast.sl.r_40 runLast.sl.r_39 runLast.sl.r_38 runLast.sl.r_37 runLast.sl.r_36 runLast.sl.r_35 runLast.sl.r_34 runLast.sl.r_33 runLast.sl.r_32 runLast.sl.r_31 runLast.sl.r_30 runLast.sl.r_29 runLast.sl.r_28 runLast.sl.r_27 runLast.sl.r_26 runLast.sl.r_25 runLast.sl.r_24 runLast.sl.r_23 runLast.sl.r_22 runLast.sl.r_21 runLast.sl.r_20 runLast.sl.r_19 runLast.sl.r_18 runLast.sl.r_17 runLast.sl.r_16 runLast.sl.r_15 runLast.sl.r_14 runLast.sl.r_13 runLast.sl.r_12 runLast.sl.r_11 runLast.sl.r_10 runLast.sl.r_9 runLast.sl.v99 runLast.sl.v109 runLast.sl.v119 runLast.sl.v129 runLast.sl.v330 runLast.sl.v340 runLast.sl.v350 runLast.sl.v360
  simp only [hacc, View.readCov_eq_canon', View.readAt_eq_ld, Memref.IsWhole.read_unread]
  rfl
end
end Cert.Kernel.Fp6

end
-- ==== Proof.Words.Region.lean ====
/- The kernel's region, point by point, and the run of the whole program: the frame claim. -/
module

public import proofs.«01_k».proof.Proof.Words.Step
public import Idealize.ShloMosaic.Lib.Claim

@[expose] public section

set_option maxRecDepth 16384

noncomputable section

namespace Cert.Kernel.Fp6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- A point is the last of its sweep exactly when its number is 12 modulo 13. -/
theorem last_iff : ∀ t : Fin cfg0.N, k0_cond1 (grid0.coords t) = 1#1 ↔ t.val % 13 = 12 :=
  (fun t => by
    have ht : t.val < 208 := Nat.lt_of_lt_of_eq t.isLt N_0
    have e0 : (grid0.coords t 0).val = t.val / 13 % 16 := Pipeline.Grid.coords_val t 0 (by decide) rfl
    have e1 : (grid0.coords t 1).val = t.val / 1 % 13 := Pipeline.Grid.coords_val t 1 (by decide) rfl
    simp only [k0_cond1, e0, e1]
    word_cmp
   : ∀ t : Fin grid0.N, k0_cond1 (grid0.coords t) = 1#1 ↔ t.val % 13 = 12)

/-- The sweep's step number at a point. -/
theorem coord1 (t : Fin cfg0.N) : (grid0.coords t 1).val = t.val % 13 := by
  have e1 : (grid0.coords t 1).val = t.val / 1 % 13 := Pipeline.Grid.coords_val t 1 (by decide) rfl
  rw [e1, Nat.div_one]

/-- The activations window is in use at every point. -/
theorem liveAt0_0 : ∀ t : Fin cfg0.N, cfg0.idle 0 (grid0.coords t) = false := fun _ => rfl
/-- The planes window is in use at every point. -/
theorem liveAt0_1 : ∀ t : Fin cfg0.N, cfg0.idle 1 (grid0.coords t) = false := fun _ => rfl
/-- The scales window is in use at every point. -/
theorem liveAt0_2 : ∀ t : Fin cfg0.N, cfg0.idle 2 (grid0.coords t) = false := fun _ => rfl
/-- Inside a sweep the output is untouched and not written back; -/
theorem idleAt0_3 : ∀ t : Fin cfg0.N, ¬k0_cond1 (grid0.coords t) = 1#1 → cfg0.idle 3 (grid0.coords t) = true := by decide +kernel
/-- Inside a sweep the output block is not written back. -/
theorem noFlush0_3 : ∀ t : Fin cfg0.N, ¬k0_cond1 (grid0.coords t) = 1#1 → (cfg0.win 3).flush t = false := by decide +kernel
/-- at its last point it is written. -/
theorem liveAt0_3 : ∀ t : Fin cfg0.N, k0_cond1 (grid0.coords t) = 1#1 → cfg0.idle 3 (grid0.coords t) = false := by decide +kernel

/-- The buffer of the activations block at a point. -/
abbrev ms0_0 (t : Fin cfg0.N) : Memref sig .tc .vmem S256x1024 .bf16 := win0_0.stage (cfg0.slots t 0)
/-- It is a whole buffer. -/
abbrev hs0_0 (t : Fin cfg0.N) : (ms0_0 t).IsWhole := hstage0_0 ((cfg0.slots t 0).cast nbuf0_0)
/-- The buffer of the planes block at a point. -/
abbrev ms0_1 (t : Fin cfg0.N) : Memref sig .tc .vmem S3x1024x256 .i8 := win0_1.stage (cfg0.slots t 1)
/-- It is a whole buffer. -/
abbrev hs0_1 (t : Fin cfg0.N) : (ms0_1 t).IsWhole := hstage0_1 ((cfg0.slots t 1).cast nbuf0_1)
/-- The buffer of the scales block at a point. -/
abbrev ms0_2 (t : Fin cfg0.N) : Memref sig .tc .vmem S4x256 .f32 := win0_2.stage (cfg0.slots t 2)
/-- It is a whole buffer. -/
abbrev hs0_2 (t : Fin cfg0.N) : (ms0_2 t).IsWhole := hstage0_2 ((cfg0.slots t 2).cast nbuf0_2)
/-- The buffer of the output block at a point. -/
abbrev ms0_3 (t : Fin cfg0.N) : Memref sig .tc .vmem S256x1024 .bf16 := win0_3.stage (cfg0.slots t 3)
/-- It is a whole buffer. -/
abbrev hs0_3 (t : Fin cfg0.N) : (ms0_3 t).IsWhole := hstage0_3 ((cfg0.slots t 3).cast nbuf0_3)
/-- The accumulator's buffer. -/
abbrev scM : Memref sig .tc .vmem S4x256x256 .f32 := Memref.whole cc0_scratch0

/-- The launch's invariant with the accumulator as a memref at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The accumulator point by point -/

/-- The accumulator after point `t` over what it held before. -/
def stepAt (c : Dev nD) (t : Fin cfg0.N) (xs : Vec F S4x256x256 .f32) : Vec F S4x256x256 .f32 :=
  accStep (BitVec.ofNat 32 (grid0.coords t 1).val) (iblk m c 0 t) (iblk m c 1 t) xs

/-- The accumulator after the point numbered `n`. -/
def accAt (c : Dev nD) : (n : ℕ) → n < cfg0.N → Vec F S4x256x256 .f32
  | 0, hn => stepAt m c ⟨0, hn⟩ (View.canon [])
  | n + 1, hn => stepAt m c ⟨n + 1, hn⟩ (accAt c n (Nat.lt_of_succ_lt hn))

/-- At the first point what the accumulator held does not matter. -/
theorem stepAt_zero (c : Dev nD) (t : Fin cfg0.N) (h : t.val % 13 = 0) (xs xs' : Vec F S4x256x256 .f32) :
    stepAt m c t xs = stepAt m c t xs' := by
  unfold stepAt
  rw [coord1, h]
  exact accStep_first _ rfl _ _ _ _

/-- The invariant before point `n`: the accumulator at what the point before left in it. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

/-- The invariant after a point, spelled out. -/
theorem PhiS_succ (c : Dev nD) (n : ℕ) (hn : n < cfg0.N) :
    PhiS m c (n + 1) hn = iprop(iprop(owns (c : Thread nD τ) scM fullShare (accAt m c n hn)) ∗ (∃ r, prngReg c r)) := rfl

/-- Before any point the accumulator is at some contents from which the point makes `accAt`. -/
theorem PhiS_find (c : Dev nD) (t : Fin cfg0.N) :
    PhiS m c t.val (Nat.le_of_lt t.isLt) ⊢
      iprop(∃ xs, ⌜stepAt m c t xs = accAt m c t.val t.isLt⌝ ∗ owns (c : Thread nD τ) scM fullShare xs ∗ (∃ r, prngReg c r)) := by
  obtain ⟨n, hn⟩ := t
  cases n with
  | zero =>
    rw [show PhiS m c (⟨0, hn⟩ : Fin cfg0.N).val (Nat.le_of_lt hn) = Pipeline.ΦA spec0 c from rfl, PhiA0_eq]
    iintro ⟨⟨%d, HS0⟩, Hg⟩
    iexists d
    isplitr
    · ipureintro; exact stepAt_zero m c ⟨0, hn⟩ rfl _ _
    isplitl [HS0]; · iexact HS0
    iexact Hg
  | succ n =>
    rw [show PhiS m c (⟨n + 1, hn⟩ : Fin cfg0.N).val (Nat.le_of_lt hn) = PhiS m c (n + 1) (Nat.le_of_lt hn) from rfl, PhiS_succ]
    iintro ⟨HS0, Hg⟩
    iexists _
    isplitr
    · ipureintro; exact rfl
    isplitl [HS0]; · iexact HS0
    iexact Hg

/-! ## The proof data -/

/-- What the region leaves where: inputs at their blocks, the output block at `outBlock` of the sweep's accumulator. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (accAt m c t.val t.isLt) (iblk m c 2 t)
  Φ t := PhiS m c t.val (Nat.le_of_lt_succ t.isLt)
  q _ := fullShare
  owed _ := 0

/-- Each window's array is entered with the contents the host lines left. -/
theorem A_eq (c : Dev nD) (w : Fin cfg0.W) : (dats m 0 c).A w = V m c (Pipeline.arrRef spec0 w) := by
  dsimp only [dats]

/-- The proof data's invariant before a point is `PhiS` there. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- A point leaves the activations block as it was. -/
theorem after0_0 (c : Dev nD) (t : Fin cfg0.N) : (dats m 0 c).after 0 t = iblk m c 0 t := by dsimp only [dats]
/-- A point leaves the planes block as it was. -/
theorem after0_1 (c : Dev nD) (t : Fin cfg0.N) : (dats m 0 c).after 1 t = iblk m c 1 t := by dsimp only [dats]
/-- A point leaves the scales block as it was. -/
theorem after0_2 (c : Dev nD) (t : Fin cfg0.N) : (dats m 0 c).after 2 t = iblk m c 2 t := by dsimp only [dats]
/-- The output block after a point that writes it. -/
theorem after0_3 (c : Dev nD) (t : Fin cfg0.N) :
    (dats m 0 c).after 3 t = outBlock (accAt m c t.val t.isLt) (iblk m c 2 t) := by dsimp only [dats]

/-- Before a point the activations window holds the point's block. -/
theorem before0_0 (c : Dev nD) (t : Fin cfg0.N) (d) : (dats m 0 c).before 0 t d = iblk m c 0 t :=
  before0_0_of m (dats m 0 c) (A_eq m c 0) (after0_0 m c) t d
/-- Before a point the planes window holds the point's block. -/
theorem before0_1 (c : Dev nD) (t : Fin cfg0.N) (d) : (dats m 0 c).before 1 t d = iblk m c 1 t :=
  before0_1_of m (dats m 0 c) (A_eq m c 1) (after0_1 m c) t d
/-- Before a point the scales window holds the point's block. -/
theorem before0_2 (c : Dev nD) (t : Fin cfg0.N) (d) : (dats m 0 c).before 2 t d = iblk m c 2 t :=
  before0_2_of m (dats m 0 c) (A_eq m c 2) (after0_2 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: inside a sweep by `runMid`, at its end by `runLast`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [PhiS_castSucc m c t]
  refine (sep_mono_left (PhiS_find m c t)).trans ?_
  by_cases h1 : k0_cond1 (grid0.coords t) = 1#1
  · rw [show (dats m 0 c).leavesExact 3 t = owns (c : Thread nD τ) (ms0_3 t) fullShare ((dats m 0 c).after 3 t) from by
      unfold Dat.leavesExact; rw [liveAt0_3 t h1], after0_3]
    iintro ⟨⟨%xs, %hxs, HS0, Hg⟩, Ho, ⟨%d0, H0⟩, ⟨%d1, H1⟩, ⟨%d2, H2⟩, ⟨%d3, H3⟩⟩
    rw [← hxs]
    iapply ((runLast c (grid0.coords t) _ (hs0_0 t) _ (hs0_1 t) _ (hs0_2 t) _ (hs0_3 t) scM (Memref.isWhole_whole _) h1 (iblk m c 0 t) (iblk m c 1 t) (iblk m c 2 t) xs).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg]
    · isplitl [HS0]
      · unfold owns; iexists _; isplitr
        swap; · iexact HS0
        ipureintro; rw [runLast_acc]; exact View.read_writes_eq_canon _ _ _ (accPieces_cover _ _ _ _)
      iexact Hg
    isplitl [Ho]; · iexact Ho
    isplitl [H0]; · iexact H0
    isplitl [H1]; · iexact H1
    isplitl [H2]; · iexact H2
    unfold owns; iexists _; isplitr
    swap; · iexact H3
    ipureintro; rw [runLast_out]; exact View.read_writes_eq_canon _ _ _ (outPieces_cover _ _)
  · rw [Dat.leavesExact_idle (dats m 0 c) 3 t (idleAt0_3 t h1) (noFlush0_3 t h1)]
    iintro ⟨⟨%xs, %hxs, HS0, Hg⟩, Ho, ⟨%d0, H0⟩, ⟨%d1, H1⟩, ⟨%d2, H2⟩, ⟨%d3, H3⟩⟩
    rw [← hxs]
    iapply ((runMid c (grid0.coords t) _ (hs0_0 t) _ (hs0_1 t) _ (hs0_2 t) _ (hs0_3 t) scM (Memref.isWhole_whole _) h1 (iblk m c 0 t) (iblk m c 1 t) (iblk m c 2 t) xs).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; rw [runMid_pieces]; exact View.read_writes_eq_canon _ _ _ (accPieces_cover _ _ _ _)
      iexact Hg
    isplitl [Ho]; · iexact Ho
    isplitl [H0]; · iexact H0
    isplitl [H1]; · iexact H1
    isplitl [H2]; · iexact H2
    iexists _; iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, show PhiS m c 0 (Nat.zero_le _) = Pipeline.ΦA spec0 c from rfl]

/-- After the last point the invariant gives it back. -/
theorem hout (c : Dev nD) : (dats m 0 c).Φ (Fin.last cfg0.N) ⊢ Pipeline.ΦA spec0 c := by
  rw [show (dats m 0 c).Φ (Fin.last cfg0.N) = PhiS m c (207 + 1) (le_of_eq N_0.symm) from rfl, PhiS_succ, PhiA0_eq]
  iintro ⟨HS0, Hg⟩
  isplitl [HS0]
  · iexists _; iexact HS0
  iexact Hg

/-! ## The run -/

-- the launch theorem's implicit arguments are found by unifying its conclusion with this one
set_option backward.isDefEq.respectTransparency.types false in
set_option maxHeartbeats 800000 in
/-- The run: every array at what the proof data says, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame claim, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel.Fp6

end
-- ==== Proof.Ideal.Point.lean ====
/- One grid point of the kernel, run symbolically: what the body's stores leave in the accumulator and in the output. -/
module

public import proofs.«01_k».proof.Proof.Gen.KernelIdeal.Frame
public import proofs.«01_k».proof.Proof.Gen.KernelIdeal.Skeleton

@[expose] public section

set_option maxRecDepth 16384

noncomputable section

namespace Cert.KernelIdeal.Fp6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the proof term of a run is large: the definition's epilogue walks it past the default budget)
set_option maxHeartbeats 1000000 in
/-- One grid point that is not the last of its sweep: from the inputs at their blocks, the output at anything and the
    accumulator at `xs0`, the body ends with the inputs and the output as they were and the accumulator with the
    pieces written that the run finds. -/
def runMid (c : Dev nD) (i : grid0.Coords) (arg2 : Memref sig .tc .vmem S256x1024 .bf16) (harg2 : arg2.IsWhole) (arg3 : Memref sig .tc .vmem S3x1024x256 .i8) (harg3 : arg3.IsWhole) (arg4 : Memref sig .tc .vmem S4x256 .f32) (harg4 : arg4.IsWhole) (arg5 : Memref sig .tc .vmem S256x1024 .bf16) (harg5 : arg5.IsWhole) (arg6 : Memref sig .tc .vmem S4x256x256 .f32) (harg6 : arg6.IsWhole) (hc1 : ¬k0_cond1 i = 1#1)
    (x0 : Vec F S256x1024 .bf16) (x1 : Vec F S3x1024x256 .i8) (x2 : Vec F S4x256 .f32) (xs0 : Vec F S4x256x256 .f32) :
    { LS0 : List (View.Piece (Elt F) S4x256x256 .f32) //
      ∀ (xi3 : Vec F S256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_fp6_linear i arg2 harg2 arg3 harg3 arg4 harg4 arg5 harg5 arg6 harg6) K } := by
  refine ⟨?_, fun xi3 E K => ?run⟩
  case run =>
    simp only [cc0_fp6_linear_eq_skeleton]; unfold cc0_fp6_linear_skel
    simp only [k0_part11_eq_skeleton, k0_part12_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The last grid point of a sweep: as `runMid`, and the output's buffer ends with the pieces written that the run
    finds. -/
def runLast (c : Dev nD) (i : grid0.Coords) (arg2 : Memref sig .tc .vmem S256x1024 .bf16) (harg2 : arg2.IsWhole) (arg3 : Memref sig .tc .vmem S3x1024x256 .i8) (harg3 : arg3.IsWhole) (arg4 : Memref sig .tc .vmem S4x256 .f32) (harg4 : arg4.IsWhole) (arg5 : Memref sig .tc .vmem S256x1024 .bf16) (harg5 : arg5.IsWhole) (arg6 : Memref sig .tc .vmem S4x256x256 .f32) (harg6 : arg6.IsWhole) (hc1 : k0_cond1 i = 1#1)
    (x0 : Vec F S256x1024 .bf16) (x1 : Vec F S3x1024x256 .i8) (x2 : Vec F S4x256 .f32) (xs0 : Vec F S4x256x256 .f32) :
    Σ' (L3 : List (View.Piece (Elt F) S256x1024 .bf16)), { LS0 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_fp6_linear i arg2 harg2 arg3 harg3 arg4 harg4 arg5 harg5 arg6 harg6) K } := by
  refine ⟨?_, ?_, fun E K => ?run⟩
  case run =>
    simp only [cc0_fp6_linear_eq_skeleton]; unfold cc0_fp6_linear_skel
    simp only [k0_part11_eq_skeleton, k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fp6

end
-- ==== Proof.Ideal.Step.lean ====
/- The accumulator a grid point leaves and the output block a sweep leaves, as functions of the blocks read. -/
module

public import proofs.«01_k».proof.Proof.Ideal.Point

@[expose] public section

set_option maxRecDepth 16384

noncomputable section

namespace Cert.KernelIdeal.Fp6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The accumulator after a point -/

/-- The activations' block as the body loads it. -/
abbrev ldX (x0 : Vec F S256x1024 .bf16) : Vec F S256x1024 .bf16 :=
  View.ld x0 (Rect.unit ![0, 0] S256x1024.size inb_S256x1024_S256x1024_0_0)
/-- The three byte planes as the body loads them. -/
abbrev ldP0 (x1 : Vec F S3x1024x256 .i8) : Vec F S1x1024x256 .i8 :=
  View.ld x1 (Rect.unit ![0, 0, 0] S1x1024x256.size inb_S3x1024x256_S1x1024x256_0_0_0)
/-- The second plane of the block. -/
abbrev ldP1 (x1 : Vec F S3x1024x256 .i8) : Vec F S1x1024x256 .i8 :=
  View.ld x1 (Rect.unit ![1, 0, 0] S1x1024x256.size inb_S3x1024x256_S1x1024x256_1_0_0)
/-- The third plane of the block. -/
abbrev ldP2 (x1 : Vec F S3x1024x256 .i8) : Vec F S1x1024x256 .i8 :=
  View.ld x1 (Rect.unit ![2, 0, 0] S1x1024x256.size inb_S3x1024x256_S1x1024x256_2_0_0)

/-- The stores a point makes into the accumulator, last first: one slice per field. -/
def accPieces (k : BitVec 32) (x0 : Vec F S256x1024 .bf16) (x1 : Vec F S3x1024x256 .i8) (xs : Vec F S4x256x256 .f32) :
    List (View.Piece (Elt F) S4x256x256 .f32) :=
  [⟨Rect.unit ![3, 0, 0] ![1, 256, 256] inb_S4x256x256_S1x256x256_3_0_0,
      k0_pay3 k (k0_pay70 (k0_pay64 (ldP2 x1))) (k0_pay71 (ldX x0))
        (View.ld xs (Rect.unit ![3, 0, 0] ![1, 256, 256] inb_S4x256x256_S1x256x256_3_0_0))⟩,
   ⟨Rect.unit ![2, 0, 0] ![1, 256, 256] inb_S4x256x256_S1x256x256_2_0_0,
      k0_pay2 k (k0_pay69 (k0_pay67 (ldP1 x1) (ldP2 x1)) k0_pay68) (k0_pay71 (ldX x0))
        (View.ld xs (Rect.unit ![2, 0, 0] ![1, 256, 256] inb_S4x256x256_S1x256x256_2_0_0))⟩,
   ⟨Rect.unit ![1, 0, 0] ![1, 256, 256] inb_S4x256x256_S1x256x256_1_0_0,
      k0_pay1 (k0_pay73 (k0_pay66 (ldP0 x1) (ldP1 x1)) (ldX x0)) (Scalar.cmpi .eq k 0#32)
        (k0_pay74 (k0_pay66 (ldP0 x1) (ldP1 x1)) (ldX x0)
          (View.ld xs (Rect.unit ![1, 0, 0] S1x256x256.size inb_S4x256x256_S1x256x256_1_0_0)))⟩,
   ⟨Rect.unit ![0, 0, 0] S1x256x256.size inb_S4x256x256_S1x256x256_0_0_0,
      k0_pay72 k (k0_pay65 (ldP0 x1)) (ldX x0)
        (View.ld xs (Rect.unit ![0, 0, 0] S1x256x256.size inb_S4x256x256_S1x256x256_0_0_0))⟩]

/-- The accumulator after a point, from the point's blocks and the accumulator before it. -/
def accStep (k : BitVec 32) (x0 : Vec F S256x1024 .bf16) (x1 : Vec F S3x1024x256 .i8) (xs : Vec F S4x256x256 .f32) :
    Vec F S4x256x256 .f32 := View.canon (accPieces k x0 x1 xs)

/-- The four slices cover the accumulator. -/
theorem accPieces_cover (k : BitVec 32) (x0 : Vec F S256x1024 .bf16) (x1 : Vec F S3x1024x256 .i8) (xs : Vec F S4x256x256 .f32)
    (y : S4x256x256.Idx) : ∃ pc ∈ accPieces k x0 x1 xs, y ∈ pc.1.set :=
  View.cover_of_tiledL (accPieces k x0 x1 xs) S1x256x256.size (by sl_kernel_rfl) y

/-- At the first point of a sweep the accumulator is stored, not added to: what it held does not matter. -/
theorem accStep_first (k : BitVec 32) (hk : k = 0#32) (x0 : Vec F S256x1024 .bf16) (x1 : Vec F S3x1024x256 .i8)
    (xs xs' : Vec F S4x256x256 .f32) : accStep k x0 x1 xs = accStep k x0 x1 xs' := by
  have hsel : ∀ a b : FVec F S256x256 .f32, Scalar.select (Scalar.cmpi .eq (0#32) 0#32) a b = a := fun a b =>
    if_pos (by decide)
  subst hk
  simp only [accStep, accPieces, k0_pay1, k0_pay2, k0_pay3, k0_pay72, hsel]

/-! ## The output block -/

/-- A field's outputs in lanes 0 to 127 of the block, scaled and rounded. -/
def yLo0 (a : Vec F S4x256x256 .f32) (x2 : Vec F S4x256 .f32) : FVec F S256x128 .f32 :=
  k0_pay8 (View.ld a (Rect.unit ![0, 0, 0] S1x256x128.size inb_S4x256x256_S1x256x128_0_0_0))
    (View.ld x2 (Rect.unit ![0, 0] S1x128.size inb_S4x256_S1x128_0_0))
/-- The same of the second field. -/
def yLo1 (a : Vec F S4x256x256 .f32) (x2 : Vec F S4x256 .f32) : FVec F S256x128 .f32 :=
  k0_pay9 (View.ld a (Rect.unit ![1, 0, 0] S1x256x128.size inb_S4x256x256_S1x256x128_1_0_0))
    (View.ld x2 (Rect.unit ![1, 0] S1x128.size inb_S4x256_S1x128_1_0))
/-- The same of the third field. -/
def yLo2 (a : Vec F S4x256x256 .f32) (x2 : Vec F S4x256 .f32) : FVec F S256x128 .f32 :=
  k0_pay10 (View.ld a (Rect.unit ![2, 0, 0] S1x256x128.size inb_S4x256x256_S1x256x128_2_0_0))
    (View.ld x2 (Rect.unit ![2, 0] S1x128.size inb_S4x256_S1x128_2_0))
/-- The accumulator of the fourth field, low half. -/
def yLo3a (a : Vec F S4x256x256 .f32) : FVec F S256x128 .f32 :=
  k0_pay11 (View.ld a (Rect.unit ![3, 0, 0] S1x256x128.size inb_S4x256x256_S1x256x128_3_0_0))
/-- The scales of the fourth field, low half. -/
def yLo3s (x2 : Vec F S4x256 .f32) : FVec F S1x128 .f32 :=
  k0_pay12 (View.ld x2 (Rect.unit ![3, 0] S1x128.size inb_S4x256_S1x128_3_0))
/-- The same of the fourth field. -/
def yLo3 (a : Vec F S4x256x256 .f32) (x2 : Vec F S4x256 .f32) : FVec F S256x128 .f32 := k0_pay13 (yLo3a a) (yLo3s x2)
/-- The same in lanes 128 to 255. -/
def yHi0 (a : Vec F S4x256x256 .f32) (x2 : Vec F S4x256 .f32) : FVec F S256x128 .f32 :=
  k0_pay35 (View.ld a (Rect.unit ![0, 0, 128] S1x256x128.size inb_S4x256x256_S1x256x128_0_0_128))
    (View.ld x2 (Rect.unit ![0, 128] S1x128.size inb_S4x256_S1x128_0_128))
/-- The same of the second field. -/
def yHi1 (a : Vec F S4x256x256 .f32) (x2 : Vec F S4x256 .f32) : FVec F S256x128 .f32 :=
  k0_pay36 (View.ld a (Rect.unit ![1, 0, 128] S1x256x128.size inb_S4x256x256_S1x256x128_1_0_128))
    (View.ld x2 (Rect.unit ![1, 128] S1x128.size inb_S4x256_S1x128_1_128))
/-- The same of the third field. -/
def yHi2 (a : Vec F S4x256x256 .f32) (x2 : Vec F S4x256 .f32) : FVec F S256x128 .f32 :=
  k0_pay38 (k0_pay37 (View.ld a (Rect.unit ![2, 0, 128] S1x256x128.size inb_S4x256x256_S1x256x128_2_0_128)))
    (View.ld x2 (Rect.unit ![2, 128] S1x128.size inb_S4x256_S1x128_2_128))
/-- The same of the fourth field. -/
def yHi3 (a : Vec F S4x256x256 .f32) (x2 : Vec F S4x256 .f32) : FVec F S256x128 .f32 :=
  k0_pay39 (View.ld a (Rect.unit ![3, 0, 128] S1x256x128.size inb_S4x256x256_S1x256x128_3_0_128))
    (View.ld x2 (Rect.unit ![3, 128] S1x128.size inb_S4x256_S1x128_3_128))
/-- The lane number, as the body counts it. -/
abbrev lanes : IVec S256x128 32 := iota Kind.tc S256x128 32 [1] iota_S256x128_d1_w32

/-- The eight interleaved groups of 128 output columns. -/
def grp0 (a : Vec F S4x256x256 .f32) (x2 : Vec F S4x256 .f32) : FVec F S256x128 .bf16 :=
  k0_pay31 (k0_pay20 k0_pay14 (k0_pay16 (yLo2 a x2)) (k0_pay17 (yLo3a a) (yLo3s x2)) (k0_pay18 (yLo0 a x2) (yLo1 a x2)) k0_pay19)
/-- Group 1 of 128 output columns. -/
def grp1 (a : Vec F S4x256x256 .f32) (x2 : Vec F S4x256 .f32) : FVec F S256x128 .bf16 :=
  k0_pay32 (k0_pay24 k0_pay14 (k0_pay22 (yLo0 a x2) (yLo1 a x2) lanes k0_pay14) (k0_pay23 (yLo2 a x2) (yLo3 a x2) lanes k0_pay14))
/-- Group 2 of 128 output columns. -/
def grp2 (a : Vec F S4x256x256 .f32) (x2 : Vec F S4x256 .f32) : FVec F S256x128 .bf16 :=
  k0_pay33 (k0_pay29 k0_pay14 (k0_pay26 (yLo0 a x2) (yLo1 a x2) lanes k0_pay14) (k0_pay27 (yLo2 a x2) (yLo3 a x2) lanes k0_pay14) k0_pay28)
/-- Group 3 of 128 output columns. -/
def grp3 (a : Vec F S4x256x256 .f32) (x2 : Vec F S4x256 .f32) : FVec F S256x128 .bf16 :=
  k0_pay34 (k0_pay30 (yLo0 a x2) (yLo1 a x2) (yLo2 a x2) (yLo3 a x2) lanes k0_pay14)
/-- Group 4 of 128 output columns. -/
def grp4 (a : Vec F S4x256x256 .f32) (x2 : Vec F S4x256 .f32) : FVec F S256x128 .bf16 :=
  k0_pay4 (k0_pay46 (yHi2 a x2) (yHi3 a x2) k0_pay40 k0_pay41 (k0_pay42 (yHi0 a x2)) (k0_pay43 (yHi1 a x2)) k0_pay44 k0_pay45)
/-- Group 5 of 128 output columns. -/
def grp5 (a : Vec F S4x256x256 .f32) (x2 : Vec F S4x256 .f32) : FVec F S256x128 .bf16 :=
  k0_pay5 (k0_pay51 (yHi2 a x2) (yHi3 a x2) k0_pay40 (k0_pay47 lanes) (k0_pay48 (yHi0 a x2) lanes) (k0_pay49 (yHi1 a x2) lanes) (k0_pay50 lanes))
/-- Group 6 of 128 output columns. -/
def grp6 (a : Vec F S4x256x256 .f32) (x2 : Vec F S4x256 .f32) : FVec F S256x128 .bf16 :=
  k0_pay6 (k0_pay56 (yHi3 a x2) k0_pay40 (k0_pay52 lanes) (k0_pay53 (yHi0 a x2) lanes) (k0_pay54 (yHi1 a x2) lanes) (k0_pay55 (yHi2 a x2) lanes))
/-- Group 7 of 128 output columns. -/
def grp7 (a : Vec F S4x256x256 .f32) (x2 : Vec F S4x256 .f32) : FVec F S256x128 .bf16 :=
  k0_pay7 (yHi3 a x2) k0_pay40 (k0_pay57 lanes) (k0_pay58 (yHi0 a x2) lanes) (k0_pay59 (yHi1 a x2) lanes) (k0_pay60 (yHi2 a x2) lanes) k0_pay61

/-- The stores the last point of a sweep makes into the output block, last first. -/
def outPieces (a : Vec F S4x256x256 .f32) (x2 : Vec F S4x256 .f32) : List (View.Piece (Elt F) S256x1024 .bf16) :=
  [⟨Rect.unit ![0, 896] ![256, 128] inb_S256x1024_S256x128_0_896, grp7 a x2⟩,
   ⟨Rect.unit ![0, 768] ![256, 128] inb_S256x1024_S256x128_0_768, grp6 a x2⟩,
   ⟨Rect.unit ![0, 640] ![256, 128] inb_S256x1024_S256x128_0_640, grp5 a x2⟩,
   ⟨Rect.unit ![0, 512] ![256, 128] inb_S256x1024_S256x128_0_512, grp4 a x2⟩,
   ⟨Rect.unit ![0, 384] S256x128.size inb_S256x1024_S256x128_0_384, grp3 a x2⟩,
   ⟨Rect.unit ![0, 256] S256x128.size inb_S256x1024_S256x128_0_256, grp2 a x2⟩,
   ⟨Rect.unit ![0, 128] S256x128.size inb_S256x1024_S256x128_0_128, grp1 a x2⟩,
   ⟨Rect.unit ![0, 0] S256x128.size inb_S256x1024_S256x128_0_0, grp0 a x2⟩]

/-- The output block a sweep leaves, from its accumulator and the scales' block. -/
def outBlock (a : Vec F S4x256x256 .f32) (x2 : Vec F S4x256 .f32) : Vec F S256x1024 .bf16 := View.canon (outPieces a x2)

/-- The eight groups cover the output block. -/
theorem outPieces_cover (a : Vec F S4x256x256 .f32) (x2 : Vec F S4x256 .f32) (y : S256x1024.Idx) :
    ∃ pc ∈ outPieces a x2, y ∈ pc.1.set :=
  View.cover_of_tiledL (outPieces a x2) S256x128.size (by sl_kernel_rfl) y

/-! ## What the runs find is these -/

section
variable (c : Dev nD) (i : grid0.Coords) (arg2 : Memref sig .tc .vmem S256x1024 .bf16) (harg2 : arg2.IsWhole) (arg3 : Memref sig .tc .vmem S3x1024x256 .i8) (harg3 : arg3.IsWhole) (arg4 : Memref sig .tc .vmem S4x256 .f32) (harg4 : arg4.IsWhole) (arg5 : Memref sig .tc .vmem S256x1024 .bf16) (harg5 : arg5.IsWhole) (arg6 : Memref sig .tc .vmem S4x256x256 .f32) (harg6 : arg6.IsWhole)
  (x0 : Vec F S256x1024 .bf16) (x1 : Vec F S3x1024x256 .i8) (x2 : Vec F S4x256 .f32) (xs0 : Vec F S4x256x256 .f32)

/-- The pieces of `runMid`. -/
theorem runMid_pieces (hc1 : ¬k0_cond1 i = 1#1) :
    (runMid c i arg2 harg2 arg3 harg3 arg4 harg4 arg5 harg5 arg6 harg6 hc1 x0 x1 x2 xs0).1
      = accPieces (BitVec.ofNat 32 (i 1).val) x0 x1 xs0 := by
  unfold runMid
  sl_unfold_words
  simp only [View.readAt_eq_ld, Memref.IsWhole.read_unread]
  rfl

/-- The accumulator's pieces of `runLast`. -/
theorem runLast_acc (hc1 : k0_cond1 i = 1#1) :
    (runLast c i arg2 harg2 arg3 harg3 arg4 harg4 arg5 harg5 arg6 harg6 hc1 x0 x1 x2 xs0).2.1
      = accPieces (BitVec.ofNat 32 (i 1).val) x0 x1 xs0 := by
  unfold runLast
  sl_unfold_words
  simp only [View.readAt_eq_ld, Memref.IsWhole.read_unread]
  rfl

/-- The output's pieces of `runLast`: from the accumulator the point leaves. -/
theorem runLast_out (hc1 : k0_cond1 i = 1#1) :
    (runLast c i arg2 harg2 arg3 harg3 arg4 harg4 arg5 harg5 arg6 harg6 hc1 x0 x1 x2 xs0).1
      = outPieces (accStep (BitVec.ofNat 32 (i 1).val) x0 x1 xs0) x2 := by
  have hacc : runLast.sl.HS0_4 c i arg2 harg2 arg3 harg3 arg6 harg6 x0 x1 xs0 = accPieces (BitVec.ofNat 32 (i 1).val) x0 x1 xs0 :=
    runLast_acc c i arg2 harg2 arg3 harg3 arg4 harg4 arg5 harg5 arg6 harg6 x0 x1 x2 xs0 hc1
  unfold runLast
  unfold runLast.sl.r_43 runLast.sl.r_42 runLast.sl.r_41 runLast.sl.r_40 runLast.sl.r_39 runLast.sl.r_38 runLast.sl.r_37 runLast.sl.r_36 runLast.sl.r_35 runLast.sl.r_34 runLast.sl.r_33 runLast.sl.r_32 runLast.sl.r_31 runLast.sl.r_30 runLast.sl.r_29 runLast.sl.r_28 runLast.sl.r_27 runLast.sl.r_26 runLast.sl.r_25 runLast.sl.r_24 runLast.sl.r_23 runLast.sl.r_22 runLast.sl.r_21 runLast.sl.r_20 runLast.sl.r_19 runLast.sl.r_18 runLast.sl.r_17 runLast.sl.r_16 runLast.sl.r_15 runLast.sl.r_14 runLast.sl.r_13 runLast.sl.r_12 runLast.sl.r_11 runLast.sl.r_10 runLast.sl.r_9 runLast.sl.v99 runLast.sl.v109 runLast.sl.v119 runLast.sl.v129 runLast.sl.v330 runLast.sl.v340 runLast.sl.v350 runLast.sl.v360
  simp only [hacc, View.readCov_eq_canon', View.readAt_eq_ld, Memref.IsWhole.read_unread]
  rfl
end
end Cert.KernelIdeal.Fp6

end
-- ==== Proof.Ideal.Region.lean ====
/- The kernel's region, point by point, and the run of the whole program: the frame claim. -/
module

public import proofs.«01_k».proof.Proof.Ideal.Step
public import Idealize.ShloMosaic.Lib.Claim

@[expose] public section

set_option maxRecDepth 16384

noncomputable section

namespace Cert.KernelIdeal.Fp6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- A point is the last of its sweep exactly when its number is 12 modulo 13. -/
theorem last_iff : ∀ t : Fin cfg0.N, k0_cond1 (grid0.coords t) = 1#1 ↔ t.val % 13 = 12 :=
  (fun t => by
    have ht : t.val < 208 := Nat.lt_of_lt_of_eq t.isLt N_0
    have e0 : (grid0.coords t 0).val = t.val / 13 % 16 := Pipeline.Grid.coords_val t 0 (by decide) rfl
    have e1 : (grid0.coords t 1).val = t.val / 1 % 13 := Pipeline.Grid.coords_val t 1 (by decide) rfl
    simp only [k0_cond1, e0, e1]
    word_cmp
   : ∀ t : Fin grid0.N, k0_cond1 (grid0.coords t) = 1#1 ↔ t.val % 13 = 12)

/-- The sweep's step number at a point. -/
theorem coord1 (t : Fin cfg0.N) : (grid0.coords t 1).val = t.val % 13 := by
  have e1 : (grid0.coords t 1).val = t.val / 1 % 13 := Pipeline.Grid.coords_val t 1 (by decide) rfl
  rw [e1, Nat.div_one]

/-- The activations window is in use at every point. -/
theorem liveAt0_0 : ∀ t : Fin cfg0.N, cfg0.idle 0 (grid0.coords t) = false := fun _ => rfl
/-- The planes window is in use at every point. -/
theorem liveAt0_1 : ∀ t : Fin cfg0.N, cfg0.idle 1 (grid0.coords t) = false := fun _ => rfl
/-- The scales window is in use at every point. -/
theorem liveAt0_2 : ∀ t : Fin cfg0.N, cfg0.idle 2 (grid0.coords t) = false := fun _ => rfl
/-- Inside a sweep the output is untouched and not written back; -/
theorem idleAt0_3 : ∀ t : Fin cfg0.N, ¬k0_cond1 (grid0.coords t) = 1#1 → cfg0.idle 3 (grid0.coords t) = true := by decide +kernel
/-- Inside a sweep the output block is not written back. -/
theorem noFlush0_3 : ∀ t : Fin cfg0.N, ¬k0_cond1 (grid0.coords t) = 1#1 → (cfg0.win 3).flush t = false := by decide +kernel
/-- at its last point it is written. -/
theorem liveAt0_3 : ∀ t : Fin cfg0.N, k0_cond1 (grid0.coords t) = 1#1 → cfg0.idle 3 (grid0.coords t) = false := by decide +kernel

/-- The buffer of the activations block at a point. -/
abbrev ms0_0 (t : Fin cfg0.N) : Memref sig .tc .vmem S256x1024 .bf16 := win0_0.stage (cfg0.slots t 0)
/-- It is a whole buffer. -/
abbrev hs0_0 (t : Fin cfg0.N) : (ms0_0 t).IsWhole := hstage0_0 ((cfg0.slots t 0).cast nbuf0_0)
/-- The buffer of the planes block at a point. -/
abbrev ms0_1 (t : Fin cfg0.N) : Memref sig .tc .vmem S3x1024x256 .i8 := win0_1.stage (cfg0.slots t 1)
/-- It is a whole buffer. -/
abbrev hs0_1 (t : Fin cfg0.N) : (ms0_1 t).IsWhole := hstage0_1 ((cfg0.slots t 1).cast nbuf0_1)
/-- The buffer of the scales block at a point. -/
abbrev ms0_2 (t : Fin cfg0.N) : Memref sig .tc .vmem S4x256 .f32 := win0_2.stage (cfg0.slots t 2)
/-- It is a whole buffer. -/
abbrev hs0_2 (t : Fin cfg0.N) : (ms0_2 t).IsWhole := hstage0_2 ((cfg0.slots t 2).cast nbuf0_2)
/-- The buffer of the output block at a point. -/
abbrev ms0_3 (t : Fin cfg0.N) : Memref sig .tc .vmem S256x1024 .bf16 := win0_3.stage (cfg0.slots t 3)
/-- It is a whole buffer. -/
abbrev hs0_3 (t : Fin cfg0.N) : (ms0_3 t).IsWhole := hstage0_3 ((cfg0.slots t 3).cast nbuf0_3)
/-- The accumulator's buffer. -/
abbrev scM : Memref sig .tc .vmem S4x256x256 .f32 := Memref.whole cc0_scratch0

/-- The launch's invariant with the accumulator as a memref at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The accumulator point by point -/

/-- The accumulator after point `t` over what it held before. -/
def stepAt (c : Dev nD) (t : Fin cfg0.N) (xs : Vec F S4x256x256 .f32) : Vec F S4x256x256 .f32 :=
  accStep (BitVec.ofNat 32 (grid0.coords t 1).val) (iblk m c 0 t) (iblk m c 1 t) xs

/-- The accumulator after the point numbered `n`. -/
def accAt (c : Dev nD) : (n : ℕ) → n < cfg0.N → Vec F S4x256x256 .f32
  | 0, hn => stepAt m c ⟨0, hn⟩ (View.canon [])
  | n + 1, hn => stepAt m c ⟨n + 1, hn⟩ (accAt c n (Nat.lt_of_succ_lt hn))

/-- At the first point what the accumulator held does not matter. -/
theorem stepAt_zero (c : Dev nD) (t : Fin cfg0.N) (h : t.val % 13 = 0) (xs xs' : Vec F S4x256x256 .f32) :
    stepAt m c t xs = stepAt m c t xs' := by
  unfold stepAt
  rw [coord1, h]
  exact accStep_first _ rfl _ _ _ _

/-- The invariant before point `n`: the accumulator at what the point before left in it. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

/-- The invariant after a point, spelled out. -/
theorem PhiS_succ (c : Dev nD) (n : ℕ) (hn : n < cfg0.N) :
    PhiS m c (n + 1) hn = iprop(iprop(owns (c : Thread nD τ) scM fullShare (accAt m c n hn)) ∗ (∃ r, prngReg c r)) := rfl

/-- Before any point the accumulator is at some contents from which the point makes `accAt`. -/
theorem PhiS_find (c : Dev nD) (t : Fin cfg0.N) :
    PhiS m c t.val (Nat.le_of_lt t.isLt) ⊢
      iprop(∃ xs, ⌜stepAt m c t xs = accAt m c t.val t.isLt⌝ ∗ owns (c : Thread nD τ) scM fullShare xs ∗ (∃ r, prngReg c r)) := by
  obtain ⟨n, hn⟩ := t
  cases n with
  | zero =>
    rw [show PhiS m c (⟨0, hn⟩ : Fin cfg0.N).val (Nat.le_of_lt hn) = Pipeline.ΦA spec0 c from rfl, PhiA0_eq]
    iintro ⟨⟨%d, HS0⟩, Hg⟩
    iexists d
    isplitr
    · ipureintro; exact stepAt_zero m c ⟨0, hn⟩ rfl _ _
    isplitl [HS0]; · iexact HS0
    iexact Hg
  | succ n =>
    rw [show PhiS m c (⟨n + 1, hn⟩ : Fin cfg0.N).val (Nat.le_of_lt hn) = PhiS m c (n + 1) (Nat.le_of_lt hn) from rfl, PhiS_succ]
    iintro ⟨HS0, Hg⟩
    iexists _
    isplitr
    · ipureintro; exact rfl
    isplitl [HS0]; · iexact HS0
    iexact Hg

/-! ## The proof data -/

/-- What the region leaves where: inputs at their blocks, the output block at `outBlock` of the sweep's accumulator. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (accAt m c t.val t.isLt) (iblk m c 2 t)
  Φ t := PhiS m c t.val (Nat.le_of_lt_succ t.isLt)
  q _ := fullShare
  owed _ := 0

/-- Each window's array is entered with the contents the host lines left. -/
theorem A_eq (c : Dev nD) (w : Fin cfg0.W) : (dats m 0 c).A w = V m c (Pipeline.arrRef spec0 w) := by
  dsimp only [dats]

/-- The proof data's invariant before a point is `PhiS` there. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- A point leaves the activations block as it was. -/
theorem after0_0 (c : Dev nD) (t : Fin cfg0.N) : (dats m 0 c).after 0 t = iblk m c 0 t := by dsimp only [dats]
/-- A point leaves the planes block as it was. -/
theorem after0_1 (c : Dev nD) (t : Fin cfg0.N) : (dats m 0 c).after 1 t = iblk m c 1 t := by dsimp only [dats]
/-- A point leaves the scales block as it was. -/
theorem after0_2 (c : Dev nD) (t : Fin cfg0.N) : (dats m 0 c).after 2 t = iblk m c 2 t := by dsimp only [dats]
/-- The output block after a point that writes it. -/
theorem after0_3 (c : Dev nD) (t : Fin cfg0.N) :
    (dats m 0 c).after 3 t = outBlock (accAt m c t.val t.isLt) (iblk m c 2 t) := by dsimp only [dats]

/-- Before a point the activations window holds the point's block. -/
theorem before0_0 (c : Dev nD) (t : Fin cfg0.N) (d) : (dats m 0 c).before 0 t d = iblk m c 0 t :=
  before0_0_of m (dats m 0 c) (A_eq m c 0) (after0_0 m c) t d
/-- Before a point the planes window holds the point's block. -/
theorem before0_1 (c : Dev nD) (t : Fin cfg0.N) (d) : (dats m 0 c).before 1 t d = iblk m c 1 t :=
  before0_1_of m (dats m 0 c) (A_eq m c 1) (after0_1 m c) t d
/-- Before a point the scales window holds the point's block. -/
theorem before0_2 (c : Dev nD) (t : Fin cfg0.N) (d) : (dats m 0 c).before 2 t d = iblk m c 2 t :=
  before0_2_of m (dats m 0 c) (A_eq m c 2) (after0_2 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: inside a sweep by `runMid`, at its end by `runLast`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [PhiS_castSucc m c t]
  refine (sep_mono_left (PhiS_find m c t)).trans ?_
  by_cases h1 : k0_cond1 (grid0.coords t) = 1#1
  · rw [show (dats m 0 c).leavesExact 3 t = owns (c : Thread nD τ) (ms0_3 t) fullShare ((dats m 0 c).after 3 t) from by
      unfold Dat.leavesExact; rw [liveAt0_3 t h1], after0_3]
    iintro ⟨⟨%xs, %hxs, HS0, Hg⟩, Ho, ⟨%d0, H0⟩, ⟨%d1, H1⟩, ⟨%d2, H2⟩, ⟨%d3, H3⟩⟩
    rw [← hxs]
    iapply ((runLast c (grid0.coords t) _ (hs0_0 t) _ (hs0_1 t) _ (hs0_2 t) _ (hs0_3 t) scM (Memref.isWhole_whole _) h1 (iblk m c 0 t) (iblk m c 1 t) (iblk m c 2 t) xs).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg]
    · isplitl [HS0]
      · unfold owns; iexists _; isplitr
        swap; · iexact HS0
        ipureintro; rw [runLast_acc]; exact View.read_writes_eq_canon _ _ _ (accPieces_cover _ _ _ _)
      iexact Hg
    isplitl [Ho]; · iexact Ho
    isplitl [H0]; · iexact H0
    isplitl [H1]; · iexact H1
    isplitl [H2]; · iexact H2
    unfold owns; iexists _; isplitr
    swap; · iexact H3
    ipureintro; rw [runLast_out]; exact View.read_writes_eq_canon _ _ _ (outPieces_cover _ _)
  · rw [Dat.leavesExact_idle (dats m 0 c) 3 t (idleAt0_3 t h1) (noFlush0_3 t h1)]
    iintro ⟨⟨%xs, %hxs, HS0, Hg⟩, Ho, ⟨%d0, H0⟩, ⟨%d1, H1⟩, ⟨%d2, H2⟩, ⟨%d3, H3⟩⟩
    rw [← hxs]
    iapply ((runMid c (grid0.coords t) _ (hs0_0 t) _ (hs0_1 t) _ (hs0_2 t) _ (hs0_3 t) scM (Memref.isWhole_whole _) h1 (iblk m c 0 t) (iblk m c 1 t) (iblk m c 2 t) xs).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; rw [runMid_pieces]; exact View.read_writes_eq_canon _ _ _ (accPieces_cover _ _ _ _)
      iexact Hg
    isplitl [Ho]; · iexact Ho
    isplitl [H0]; · iexact H0
    isplitl [H1]; · iexact H1
    isplitl [H2]; · iexact H2
    iexists _; iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, show PhiS m c 0 (Nat.zero_le _) = Pipeline.ΦA spec0 c from rfl]

/-- After the last point the invariant gives it back. -/
theorem hout (c : Dev nD) : (dats m 0 c).Φ (Fin.last cfg0.N) ⊢ Pipeline.ΦA spec0 c := by
  rw [show (dats m 0 c).Φ (Fin.last cfg0.N) = PhiS m c (207 + 1) (le_of_eq N_0.symm) from rfl, PhiS_succ, PhiA0_eq]
  iintro ⟨HS0, Hg⟩
  isplitl [HS0]
  · iexists _; iexact HS0
  iexact Hg

/-! ## The run -/

-- the launch theorem's implicit arguments are found by unifying its conclusion with this one
set_option backward.isDefEq.respectTransparency.types false in
set_option maxHeartbeats 800000 in
/-- The run: every array at what the proof data says, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame claim, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Fp6

end
-- ==== Proof.Ideal.Blocks.lean ====
/- The region's input arrays and each point's blocks of them, at an index, as entries of the program's arguments. -/
module

public import proofs.«01_k».proof.Proof.Ideal.Region
public import Idealize.ShloMosaic.Lib.Pipeline.Value
public import Idealize.ShloMosaic.Lib.ValueIdx

@[expose] public section

set_option maxRecDepth 16384

noncomputable section

namespace Cert.KernelIdeal.Fp6

open Idealize.ShloMosaic Idealize.ShloMosaic.TcCoe Idealize.ShloMosaic.ValueIdx Idealize.ShloMosaic.Tactic
open Cert.KernelIdeal Cert.KernelIdeal.Gen

variable {F : FTy → Type} [FloatOps F]

variable (m : (ℓ : Loc nD τ sig) → Buf (Elt F) ℓ)

/-- The activations as launched. -/
abbrev argX (c : Dev nD) : Vec F S256x1x13312 .bf16 := m ((c : Thread nD τ).loc main_arg0)
/-- The packed weights as launched. -/
abbrev argW (c : Dev nD) : Vec F S13312x4096x3 .i8 := m ((c : Thread nD τ).loc main_arg1)
/-- The scales as launched. -/
abbrev argS (c : Dev nD) : Vec F S16384 .f32 := m ((c : Thread nD τ).loc main_arg2)

/-! ## The arrays the region is entered with -/

/-- The activations as a matrix. -/
theorem V_main_v0 (c : Dev nD) : V m c main_v0 = shapeCast S256x13312 (argX m c) shapeCasts_S256x1x13312_S256x13312 := by
  show StableHlo.after (List.flatten [hostOps0]) (fun b => m (c, b)) (Proc.devRef .tc main_v0) = _
  simp only [List.flatten_cons, List.flatten_nil, List.append_nil]
  after_results
  rfl

/-- The packed weights, a plane for each byte of a group. -/
theorem V_main_v1 (c : Dev nD) : V m c main_v1 = transpose S3x13312x4096 [2, 0, 1] (argW m c) transposes_S13312x4096x3_S3x13312x4096_2_0_1 := by
  show StableHlo.after (List.flatten [hostOps0]) (fun b => m (c, b)) (Proc.devRef .tc main_v1) = _
  simp only [List.flatten_cons, List.flatten_nil, List.append_nil]
  after_results

/-- The scales, a row for each field of a group. -/
theorem V_main_v3 (c : Dev nD) : V m c main_v3 = transpose S4x4096 [1, 0] (shapeCast S4096x4 (argS m c) shapeCasts_S16384_S4096x4) transposes_S4096x4_S4x4096_1_0 := by
  show StableHlo.after (List.flatten [hostOps0]) (fun b => m (c, b)) (Proc.devRef .tc main_v3) = _
  simp only [List.flatten_cons, List.flatten_nil, List.append_nil]
  after_results
  rfl

/-- The activations as a matrix, at an index. -/
theorem matX_apply (x : Vec F S256x1x13312 .bf16) (r : Fin 256) (k : Fin 13312) :
    (shapeCast S256x13312 x shapeCasts_S256x1x13312_S256x13312 : Vec F S256x13312 .bf16) (ix2 r k) = x (ix3 r 0 k) := by
  refine shapeCast_apply _ _ _ _ ?_
  rw [show (S256x1x13312.rowMajor (ix3 r 0 k)).val = (r.val * 1 + 0) * 13312 + k.val from Shape.rowMajor_val_three _,
    show (S256x13312.rowMajor (ix2 r k)).val = r.val * 13312 + k.val from Shape.rowMajor_val_two _]
  omega

/-- The scales as a matrix, at an index. -/
theorem matS_apply (s : Vec F S16384 .f32) (i : Fin 4) (j : Fin 4096) :
    (transpose S4x4096 [1, 0] (shapeCast S4096x4 s shapeCasts_S16384_S4096x4 : Vec F S4096x4 .f32) transposes_S4096x4_S4x4096_1_0 : Vec F S4x4096 .f32) (ix2 i j)
      = s (ix1 ⟨4 * j.val + i.val, by have := j.isLt; have := i.isLt; omega⟩) := by
  have e : (transpose S4x4096 [1, 0] (shapeCast S4096x4 s shapeCasts_S16384_S4096x4 : Vec F S4096x4 .f32) transposes_S4096x4_S4x4096_1_0 : Vec F S4x4096 .f32) (ix2 i j)
      = (shapeCast S4096x4 s shapeCasts_S16384_S4096x4 : Vec F S4096x4 .f32) (ix2 j i) := by
    refine congrArg (shapeCast S4096x4 s shapeCasts_S16384_S4096x4 : Vec F S4096x4 .f32) (funext fun a => Fin.ext ?_)
    match a with
    | ⟨0, _⟩ => rfl
    | ⟨1, _⟩ => rfl
  rw [e]
  refine shapeCast_apply _ _ _ _ ?_
  rw [show (S16384.rowMajor (ix1 ⟨4 * j.val + i.val, by have := j.isLt; have := i.isLt; omega⟩)).val = 4 * j.val + i.val from Shape.rowMajor_val_one _,
    show (S4096x4.rowMajor (ix2 j i)).val = j.val * 4 + i.val from Shape.rowMajor_val_two _]
  omega

/-- The result with its unit axis, at an index. -/
theorem matY_apply (y : Vec F S256x16384 .bf16) (r : Fin 256) (q : Fin 16384) :
    (shapeCast S256x1x16384 y shapeCasts_S256x16384_S256x1x16384 : Vec F S256x1x16384 .bf16) (ix3 r 0 q) = y (ix2 r q) := by
  refine shapeCast_apply _ _ _ _ ?_
  rw [show (S256x1x16384.rowMajor (ix3 r 0 q)).val = (r.val * 1 + 0) * 16384 + q.val from Shape.rowMajor_val_three _,
    show (S256x16384.rowMajor (ix2 r q)).val = r.val * 16384 + q.val from Shape.rowMajor_val_two _]
  omega

/-! ## Which block a point has -/

/-- The activations block of a point: all rows, the step's columns. -/
theorem idx0 : ∀ t : Fin cfg0.N, win0_0.index t (0 : Fin 2) = 0 ∧ win0_0.index t (1 : Fin 2) = t.val % 13 :=
  (by decide +kernel : ∀ t : Fin grid0.N, _)
/-- The planes block of a point: all planes, the step's rows, the sweep's columns. -/
theorem idx1 : ∀ t : Fin cfg0.N, win0_1.index t (0 : Fin 3) = 0 ∧ win0_1.index t (1 : Fin 3) = t.val % 13 ∧ win0_1.index t (2 : Fin 3) = t.val / 13 :=
  (by decide +kernel : ∀ t : Fin grid0.N, _)
/-- The scales block of a point: all fields, the sweep's columns. -/
theorem idx2 : ∀ t : Fin cfg0.N, win0_2.index t (0 : Fin 2) = 0 ∧ win0_2.index t (1 : Fin 2) = t.val / 13 :=
  (by decide +kernel : ∀ t : Fin grid0.N, _)
/-- The output block of a point: all rows, the sweep's columns. -/
theorem idx3 : ∀ t : Fin cfg0.N, win0_3.index t (0 : Fin 2) = 0 ∧ win0_3.index t (1 : Fin 2) = t.val / 13 :=
  (by decide +kernel : ∀ t : Fin grid0.N, _)

/-- Points are fewer than 208. -/
theorem lt_208 (t : Fin cfg0.N) : t.val < 208 := Nat.lt_of_lt_of_eq t.isLt N_0

/-- The contraction index of row `kk` of a point's block. -/
abbrev kIdx (s : ℕ) (hs : s < 13) (kk : Fin 1024) : Fin 13312 := ⟨1024 * s + kk.val, by have := kk.isLt; omega⟩
/-- The group of lane `l` of a point's block. -/
abbrev jIdx (n : ℕ) (hn : n < 16) (l : Fin 256) : Fin 4096 := ⟨256 * n + l.val, by have := l.isLt; omega⟩

/-- A step number is less than 13. -/
theorem mod_lt (t : Fin cfg0.N) : t.val % 13 < 13 := Nat.mod_lt _ (by decide)
/-- A sweep number is less than 16. -/
theorem div_lt (t : Fin cfg0.N) : t.val / 13 < 16 := by have := lt_208 t; omega

/-- A point's block of activations. -/
theorem iblk0_apply (c : Dev nD) (t : Fin cfg0.N) (r : Fin 256) (kk : Fin 1024) :
    (iblk m c 0 t : Vec F S256x1024 .bf16) (ix2 r kk) = argX m c (ix3 r 0 (kIdx (t.val % 13) (mod_lt t) kk)) := by
  obtain ⟨e0, e1⟩ := idx0 t
  have h : (iblk m c 0 t : Vec F S256x1024 .bf16) (ix2 r kk) = V m c main_v0 (((cfg0.win 0).blk t).view.emb (ix2 r kk)) := rfl
  rw [h, V_main_v0]
  have hb0 : (((cfg0.win 0).blk t).view.emb (ix2 r kk) 0).val = win0_0.index t (0 : Fin 2) * 256 + 1 * r.val := rfl
  have hb1 : (((cfg0.win 0).blk t).view.emb (ix2 r kk) 1).val = win0_0.index t (1 : Fin 2) * 1024 + 1 * kk.val := rfl
  have he : (((cfg0.win 0).blk t).view.emb (ix2 r kk) : S256x13312.Idx) = ix2 r (kIdx (t.val % 13) (mod_lt t) kk) := funext fun a => Fin.ext (by
    match a with
    | ⟨0, _⟩ => refine hb0.trans ?_; show _ = r.val; rw [e0]; omega
    | ⟨1, _⟩ => refine hb1.trans ?_; show _ = 1024 * (t.val % 13) + kk.val; rw [e1]; omega)
  refine (congrArg (shapeCast S256x13312 (argX m c) shapeCasts_S256x1x13312_S256x13312) he).trans ?_
  exact matX_apply _ _ _

/-- A point's block of planes. -/
theorem iblk1_apply (c : Dev nD) (t : Fin cfg0.N) (b : Fin 3) (kk : Fin 1024) (l : Fin 256) :
    (iblk m c 1 t : Vec F S3x1024x256 .i8) (ix3 b kk l)
      = argW m c (ix3 (kIdx (t.val % 13) (mod_lt t) kk) (jIdx (t.val / 13) (div_lt t) l) b) := by
  obtain ⟨e0, e1, e2⟩ := idx1 t
  have h : (iblk m c 1 t : Vec F S3x1024x256 .i8) (ix3 b kk l) = V m c main_v1 (((cfg0.win 1).blk t).view.emb (ix3 b kk l)) := rfl
  rw [h, V_main_v1]
  have hb0 : (((cfg0.win 1).blk t).view.emb (ix3 b kk l) 0).val = win0_1.index t (0 : Fin 3) * 3 + 1 * b.val := rfl
  have hb1 : (((cfg0.win 1).blk t).view.emb (ix3 b kk l) 1).val = win0_1.index t (1 : Fin 3) * 1024 + 1 * kk.val := rfl
  have hb2 : (((cfg0.win 1).blk t).view.emb (ix3 b kk l) 2).val = win0_1.index t (2 : Fin 3) * 256 + 1 * l.val := rfl
  refine congrArg (argW m c) (funext fun a => Fin.ext ?_)
  match a with
  | ⟨0, _⟩ =>
    show (((cfg0.win 1).blk t).view.emb (ix3 b kk l) 1).val = 1024 * (t.val % 13) + kk.val
    rw [hb1, e1]; omega
  | ⟨1, _⟩ =>
    show (((cfg0.win 1).blk t).view.emb (ix3 b kk l) 2).val = 256 * (t.val / 13) + l.val
    rw [hb2, e2]; omega
  | ⟨2, _⟩ =>
    show (((cfg0.win 1).blk t).view.emb (ix3 b kk l) 0).val = b.val
    rw [hb0, e0]; omega

/-- A point's block of scales. -/
theorem iblk2_apply (c : Dev nD) (t : Fin cfg0.N) (i : Fin 4) (l : Fin 256) :
    (iblk m c 2 t : Vec F S4x256 .f32) (ix2 i l)
      = argS m c (ix1 ⟨4 * (jIdx (t.val / 13) (div_lt t) l).val + i.val, by have := (jIdx (t.val / 13) (div_lt t) l).isLt; have := i.isLt; omega⟩) := by
  obtain ⟨e0, e1⟩ := idx2 t
  have h : (iblk m c 2 t : Vec F S4x256 .f32) (ix2 i l) = V m c main_v3 (((cfg0.win 2).blk t).view.emb (ix2 i l)) := rfl
  rw [h, V_main_v3]
  have hb0 : (((cfg0.win 2).blk t).view.emb (ix2 i l) 0).val = win0_2.index t (0 : Fin 2) * 4 + 1 * i.val := rfl
  have hb1 : (((cfg0.win 2).blk t).view.emb (ix2 i l) 1).val = win0_2.index t (1 : Fin 2) * 256 + 1 * l.val := rfl
  have he : (((cfg0.win 2).blk t).view.emb (ix2 i l) : S4x4096.Idx) = ix2 i (jIdx (t.val / 13) (div_lt t) l) := funext fun a => Fin.ext (by
    match a with
    | ⟨0, _⟩ => refine hb0.trans ?_; show _ = i.val; rw [e0]; omega
    | ⟨1, _⟩ => refine hb1.trans ?_; show _ = 256 * (t.val / 13) + l.val; rw [e1]; omega)
  refine (congrArg (transpose S4x4096 [1, 0] (shapeCast S4096x4 (argS m c) shapeCasts_S16384_S4096x4 : Vec F S4096x4 .f32) transposes_S4096x4_S4x4096_1_0) he).trans ?_
  exact matS_apply _ _ _

end Cert.KernelIdeal.Fp6

end
-- ==== Proof.Ideal.Decode.lean ====
/- The six-bit weight codes: the byte the kernel's word arithmetic makes of a code, and the value both programs read
   off it. No program is mentioned here. -/
module

public import Idealize.ShloMosaic.PureOps.Ideal
public import Idealize.ShloMosaic.Lib.BitcastFour
public import Idealize.ShloMosaic.Lib.IdealHost

@[expose] public section

noncomputable section

namespace Cert.Fp6

open Idealize.ShloMosaic

/-! ## The four bytes of a word -/

/-- Byte `j` of a word, the lowest first. -/
def byteOf (j : Nat) (w : BitVec 32) : BitVec 8 := w.extractLsb' (8 * j) 8

/-- A byte in all four places of a word. -/
def splat (k : BitVec 8) : BitVec 32 := k.setWidth 32 ||| (k.setWidth 32 <<< 8) ||| (k.setWidth 32 <<< 16) ||| (k.setWidth 32 <<< 24)

/-- A bit of a byte of a word. -/
theorem byteOf_getLsbD (j p : Nat) (w : BitVec 32) (hp : p < 8) : (byteOf j w).getLsbD p = w.getLsbD (8 * j + p) := by
  simp [byteOf, BitVec.getLsbD_extractLsb', hp]

/-- A bit of the repeated byte. -/
theorem splat_getLsbD (k : BitVec 8) (j p : Nat) (hj : j < 4) (hp : p < 8) :
    (splat k).getLsbD (8 * j + p) = k.getLsbD p := by
  have h := four_bytes_getLsbD (fun _ => k) (8 * j + p) (by omega)
  have e : (8 * j + p) % 8 = p := by omega
  rw [e] at h
  exact h

/-- Every byte of the repeated byte is that byte. -/
theorem byteOf_splat (k : BitVec 8) (j : Nat) (hj : j < 4) : byteOf j (splat k) = k := by
  apply BitVec.eq_of_getLsbD_eq
  intro p hp
  rw [byteOf_getLsbD j p _ hp, splat_getLsbD k j p hj hp]

/-- Masking, byte by byte. -/
theorem byteOf_and (j : Nat) (v w : BitVec 32) : byteOf j (v &&& w) = byteOf j v &&& byteOf j w := by
  apply BitVec.eq_of_getLsbD_eq
  intro p hp
  simp only [BitVec.getLsbD_and, byteOf_getLsbD j p _ hp]

/-- Joining, byte by byte. -/
theorem byteOf_or (j : Nat) (v w : BitVec 32) : byteOf j (v ||| w) = byteOf j v ||| byteOf j w := by
  apply BitVec.eq_of_getLsbD_eq
  intro p hp
  simp only [BitVec.getLsbD_or, byteOf_getLsbD j p _ hp]

/-- A shift to the left under a mask that clears the bits shifted in from the byte below acts on each byte. -/
theorem byteOf_shl_and (j n : Nat) (hj : j < 4) (w : BitVec 32) (k : BitVec 8) (hk : ∀ p, p < n → k.getLsbD p = false) :
    byteOf j ((w <<< n) &&& splat k) = (byteOf j w <<< n) &&& k := by
  apply BitVec.eq_of_getLsbD_eq
  intro p hp
  rw [byteOf_getLsbD j p _ hp, BitVec.getLsbD_and, BitVec.getLsbD_and, splat_getLsbD k j p hj hp]
  by_cases h : p < n
  · rw [hk p h, Bool.and_false, Bool.and_false]
  · rw [BitVec.getLsbD_shiftLeft, BitVec.getLsbD_shiftLeft, byteOf_getLsbD j (p - n) _ (by omega)]
    have e : 8 * j + p - n = 8 * j + (p - n) := by omega
    have h1 : 8 * j + p < 32 := by omega
    have h2 : ¬ 8 * j + p < n := by omega
    simp [e, h1, h2, h, hp]

/-- A shift to the right under a mask that clears the bits shifted in from the byte above acts on each byte. -/
theorem byteOf_shr_and (j n : Nat) (hj : j < 4) (w : BitVec 32) (k : BitVec 8)
    (hk : ∀ p, p < 8 → 8 ≤ p + n → k.getLsbD p = false) :
    byteOf j ((w >>> n) &&& splat k) = (byteOf j w >>> n) &&& k := by
  apply BitVec.eq_of_getLsbD_eq
  intro p hp
  rw [byteOf_getLsbD j p _ hp, BitVec.getLsbD_and, BitVec.getLsbD_and, splat_getLsbD k j p hj hp]
  by_cases h : 8 ≤ p + n
  · rw [hk p hp h, Bool.and_false, Bool.and_false]
  · rw [BitVec.getLsbD_ushiftRight, BitVec.getLsbD_ushiftRight, byteOf_getLsbD j (n + p) _ (by omega)]
    have e : n + (8 * j + p) = 8 * j + (n + p) := by omega
    rw [e]

/-- A byte of a word, as a number. -/
theorem toNat_byteOf (j : Nat) (w : BitVec 32) : (byteOf j w).toNat = w.toNat / 2 ^ (8 * j) % 256 := by
  simp only [byteOf, BitVec.extractLsb'_toNat, Nat.shiftRight_eq_div_pow]

/-- Adding 0x40 to each of four bytes below 128, the word and its bytes as numbers. -/
theorem add_bytes (a b c d : Nat) (ha : a < 128) (hb : b < 128) (hc : c < 128) (hd : d < 128) :
    (a + 256 * b + 65536 * c + 16777216 * d + 1077952576) % 4294967296
      = (a + 64) + 256 * (b + 64) + 65536 * (c + 64) + 16777216 * (d + 64) := by
  rw [Nat.mod_eq_of_lt (by omega)]; omega

/-- Adding 0x40 to four bytes none of which has its top bit set: no byte carries into the next. -/
theorem byteOf_add (j : Nat) (hj : j < 4) (w : BitVec 32) (hw : ∀ i, i < 4 → (byteOf i w).toNat < 128) :
    byteOf j (w + splat 0x40#8) = byteOf j w + 0x40#8 := by
  have h0 := hw 0 (by decide)
  have h1 := hw 1 (by decide)
  have h2 := hw 2 (by decide)
  have h3 := hw 3 (by decide)
  have hs : splat 0x40#8 = 1077952576#32 := by decide
  have hlt : w.toNat < 4294967296 := w.isLt
  rw [hs]
  simp only [toNat_byteOf, Nat.reduceMul, Nat.reducePow] at h0 h1 h2 h3
  apply BitVec.eq_of_toNat_eq
  rw [toNat_byteOf, BitVec.toNat_add, BitVec.toNat_add, toNat_byteOf]
  generalize w.toNat = x at *
  have e := add_bytes (x / 1 % 256) (x / 256 % 256) (x / 65536 % 256) (x / 16777216 % 256) h0 h1 h2 h3
  have ex : x / 1 % 256 + 256 * (x / 256 % 256) + 65536 * (x / 65536 % 256) + 16777216 * (x / 16777216 % 256) = x := by omega
  rw [ex] at e
  show (x + 1077952576) % 4294967296 / 2 ^ (8 * j) % 256 = (x / 2 ^ (8 * j) % 256 + 64) % 256
  rw [e]
  rcases (by omega : j = 0 ∨ j = 1 ∨ j = 2 ∨ j = 3) with rfl | rfl | rfl | rfl <;>
    simp only [Nat.reduceMul, Nat.reducePow] <;> omega

/-! ## Bitcasts between words and bytes -/

/-- Byte `j` of the word the bitcast makes of four byte rows is byte row `4 a + j`. -/
theorem byteOf_bitcast {R r n : Nat} (x : (⟨2, ![R, n]⟩ : Shape).Idx → BitVec 8)
    (h : (⟨2, ![R, n]⟩ : Shape).Bitcasts 8 ⟨2, ![r, n]⟩ 32) (a : Fin r) (l : Fin n) (j : Nat) (hj : j < 4) (p : Fin R)
    (hp : p.val = 4 * a.val + j) :
    byteOf j (bitcast ⟨2, ![r, n]⟩ 32 x h (ValueIdx.ix2 a l)) = x (ValueIdx.ix2 p l) := by
  apply BitVec.eq_of_getLsbD_eq
  intro q hq
  rw [byteOf_getLsbD j q _ hq, bitcast_8_32_getLsbD_ix2 x h a l (8 * j + q) (by omega) p (by omega)]
  congr 1
  omega

/-- The bitcast of words to bytes: row `4 a + j` is byte `j` of word row `a`. -/
theorem bitcast_32_8_ix2 {R r n : Nat} (x : (⟨2, ![r, n]⟩ : Shape).Idx → BitVec 32)
    (h : (⟨2, ![r, n]⟩ : Shape).Bitcasts 32 ⟨2, ![R, n]⟩ 8) (a : Fin r) (l : Fin n) (j : Nat) (hj : j < 4) (p : Fin R)
    (hp : p.val = 4 * a.val + j) :
    bitcast ⟨2, ![R, n]⟩ 8 x h (ValueIdx.ix2 p l) = byteOf j (x (ValueIdx.ix2 a l)) := by
  have hrow : Shape.row (⟨2, ![R, n]⟩ : Shape) (ValueIdx.ix2 p l) = p.val := rfl
  apply BitVec.eq_of_getLsbD_eq
  intro q hq
  rw [byteOf_getLsbD j q _ hq, bitcast_getLsbD x h _ q hq (by decide)]
  have e1 : (Shape.row (⟨2, ![R, n]⟩ : Shape) (ValueIdx.ix2 p l) * 8 + q) % 32 = 8 * j + q := by rw [hrow]; omega
  rw [e1]
  congr 2
  funext c
  match c with
  | ⟨0, _⟩ =>
    refine Fin.ext ((h.srcIdx_row _ _ _ ⟨0, Nat.zero_lt_two⟩ rfl).trans ?_)
    show (Shape.row (⟨2, ![R, n]⟩ : Shape) (ValueIdx.ix2 p l) * 8 + q) / 32 = a.val
    rw [hrow]; omega
  | ⟨1, _⟩ => exact Fin.ext (h.srcIdx_other _ _ _ ⟨1, Nat.one_lt_two⟩ (by show ¬ 1 + 2 = 2; omega))

/-! ## The codes -/

/-- The six-bit codes packed in three bytes. -/
def code : Fin 4 → BitVec 8 → BitVec 8 → BitVec 8 → BitVec 8
  | 0, b0, _, _ => b0 &&& 0x3F#8
  | 1, b0, b1, _ => ((b1 <<< 2) ||| (b0 >>> 6)) &&& 0x3F#8
  | 2, _, b1, b2 => ((b2 <<< 4) ||| (b1 >>> 4)) &&& 0x3F#8
  | 3, _, _, b2 => b2 >>> 2

/-- The eight-bit float a code is widened to: its sign moved to the top, its other bits up by one. -/
def widen (c : BitVec 8) : BitVec 8 := ((c <<< 1) + 0x40#8) &&& 0xBE#8

/-- The first field, shifted up by one. -/
theorem code0_shl (b : BitVec 8) : (b <<< 1) &&& 0x7E#8 = (b &&& 0x3F#8) <<< 1 := by revert b; decide
/-- The fourth field, with its sign moved to the top bit. -/
theorem code3_widen (b : BitVec 8) : (b &&& 0x80#8) ||| ((b >>> 1) &&& 0x3E#8) = widen (b >>> 2) := by revert b; decide
/-- The second field, shifted up by one. -/
theorem code1_shl (b0 b1 : BitVec 8) :
    ((b1 <<< 3) &&& 0x78#8) ||| ((b0 >>> 5) &&& 0x06#8) = (((b1 <<< 2) ||| (b0 >>> 6)) &&& 0x3F#8) <<< 1 := by
  apply BitVec.eq_of_getLsbD_eq
  intro p hp
  interval_cases p <;> simp [BitVec.getLsbD_shiftLeft, BitVec.getLsbD_ushiftRight]
/-- The third field, shifted up by one. -/
theorem code2_shl (b1 b2 : BitVec 8) :
    ((b2 <<< 5) &&& 0x60#8) ||| ((b1 >>> 3) &&& 0x1E#8) = (((b2 <<< 4) ||| (b1 >>> 4)) &&& 0x3F#8) <<< 1 := by
  apply BitVec.eq_of_getLsbD_eq
  intro p hp
  interval_cases p <;> simp [BitVec.getLsbD_shiftLeft, BitVec.getLsbD_ushiftRight]

/-- A byte under the mask 0x7E is less than 128. -/
theorem lt_of_and (b : BitVec 8) : (b &&& 0x7E#8).toNat < 128 := by revert b; decide
/-- A six-bit code shifted up by one is less than 128. -/
theorem lt_shl1 (b : BitVec 8) : ((b &&& 0x3F#8) <<< 1).toNat < 128 := by revert b; decide

/-- One byte of the first field's word: the byte of the code widened. -/
theorem swar0 (j : Nat) (hj : j < 4) (w0 w1 w2 : BitVec 32) :
    byteOf j ((((w0 <<< 1) &&& splat 0x7E#8) + splat 0x40#8) &&& splat 0xBE#8)
      = widen (code 0 (byteOf j w0) (byteOf j w1) (byteOf j w2)) := by
  have hb : ∀ i, i < 4 → byteOf i ((w0 <<< 1) &&& splat 0x7E#8) = (byteOf i w0 &&& 0x3F#8) <<< 1 := fun i hi => by
    rw [byteOf_shl_and i 1 hi w0 0x7E#8 (by decide), code0_shl]
  rw [byteOf_and, byteOf_splat _ j hj, byteOf_add j hj _ (fun i hi => by rw [hb i hi]; exact lt_shl1 _), hb j hj]
  rfl
/-- One byte of the second field's word. -/
theorem swar1 (j : Nat) (hj : j < 4) (w0 w1 w2 : BitVec 32) :
    byteOf j (((((w1 <<< 3) &&& splat 0x78#8) ||| ((w0 >>> 5) &&& splat 0x06#8)) + splat 0x40#8) &&& splat 0xBE#8)
      = widen (code 1 (byteOf j w0) (byteOf j w1) (byteOf j w2)) := by
  have hb : ∀ i, i < 4 → byteOf i (((w1 <<< 3) &&& splat 0x78#8) ||| ((w0 >>> 5) &&& splat 0x06#8))
      = (((byteOf i w1 <<< 2) ||| (byteOf i w0 >>> 6)) &&& 0x3F#8) <<< 1 := fun i hi => by
    rw [byteOf_or, byteOf_shl_and i 3 hi w1 0x78#8 (by decide), byteOf_shr_and i 5 hi w0 0x06#8 (by decide), code1_shl]
  rw [byteOf_and, byteOf_splat _ j hj, byteOf_add j hj _ (fun i hi => by rw [hb i hi]; exact lt_shl1 _), hb j hj]
  rfl
/-- One byte of the third field's word. -/
theorem swar2 (j : Nat) (hj : j < 4) (w0 w1 w2 : BitVec 32) :
    byteOf j (((((w2 <<< 5) &&& splat 0x60#8) ||| ((w1 >>> 3) &&& splat 0x1E#8)) + splat 0x40#8) &&& splat 0xBE#8)
      = widen (code 2 (byteOf j w0) (byteOf j w1) (byteOf j w2)) := by
  have hb : ∀ i, i < 4 → byteOf i (((w2 <<< 5) &&& splat 0x60#8) ||| ((w1 >>> 3) &&& splat 0x1E#8))
      = (((byteOf i w2 <<< 4) ||| (byteOf i w1 >>> 4)) &&& 0x3F#8) <<< 1 := fun i hi => by
    rw [byteOf_or, byteOf_shl_and i 5 hi w2 0x60#8 (by decide), byteOf_shr_and i 3 hi w1 0x1E#8 (by decide), code2_shl]
  rw [byteOf_and, byteOf_splat _ j hj, byteOf_add j hj _ (fun i hi => by rw [hb i hi]; exact lt_shl1 _), hb j hj]
  rfl
/-- One byte of the fourth field's word. -/
theorem swar3 (j : Nat) (hj : j < 4) (w0 w1 w2 : BitVec 32) :
    byteOf j ((w2 &&& splat 0x80#8) ||| ((w2 >>> 1) &&& splat 0x3E#8))
      = widen (code 3 (byteOf j w0) (byteOf j w1) (byteOf j w2)) := by
  rw [byteOf_or, byteOf_and, byteOf_splat _ j hj, byteOf_shr_and j 1 hj w2 0x3E#8 (by decide), code3_widen]
  rfl

/-! ## The value of a code -/

/-- The value of a six-bit code: a sign bit, three exponent bits, two fraction bits. -/
def valueOf (c : Nat) : ℝ :=
  (1 - 2 * (c / 32 : ℕ)) * (if c / 4 % 8 = 0 then ((c % 4 : ℕ) : ℝ) * (1 / 16)
    else (4 + ((c % 4 : ℕ) : ℝ)) * ((2 ^ (c / 4 % 8) : ℕ) : ℝ) * (1 / 32))

/-- The eight-bit float of a code is a sixteenth of the code's value. -/
theorem e4m3fn_widen (c : BitVec 8) (hc : c.toNat < 64) :
    Ideal.ofBits .fp8e4m3 (widen c) = ((valueOf c.toNat / 16 : ℝ) : EReal) := by
  have h : ∀ n : Fin 64, Ideal.ofBits .fp8e4m3 (widen (BitVec.ofNat 8 n.val)) = ((valueOf n.val / 16 : ℝ) : EReal) := by
    intro n
    fin_cases n <;> simp [Ideal.ofBits, Ideal.e4m3fn, widen, valueOf, -EReal.coe_mul, -EReal.coe_neg, -EReal.coe_add,
      -EReal.coe_sub] <;> norm_num
  have e := h ⟨c.toNat, hc⟩
  have ec : BitVec.ofNat 8 c.toNat = c := by simp
  simp only [ec] at e
  exact e

/-- Six bits are less than 64. -/
theorem and63_lt (b : BitVec 8) : (b &&& 0x3F#8).toNat < 64 := by revert b; decide
/-- A byte shifted down by two is less than 64. -/
theorem shr2_lt (b : BitVec 8) : (b >>> 2).toNat < 64 := by revert b; decide
/-- A code is below 64. -/
theorem code_lt (i : Fin 4) (b0 b1 b2 : BitVec 8) : (code i b0 b1 b2).toNat < 64 := by
  match i with
  | 0 => exact and63_lt _
  | 1 => exact and63_lt _
  | 2 => exact and63_lt _
  | 3 => exact shr2_lt _

/-- The weight of field `i` of three bytes. -/
def weight (i : Fin 4) (b0 b1 b2 : BitVec 8) : ℝ := valueOf (code i b0 b1 b2).toNat

/-- The kernel's weight is a sixteenth of the weight. -/
theorem ofBits_widen_code (i : Fin 4) (b0 b1 b2 : BitVec 8) :
    Ideal.ofBits .fp8e4m3 (widen (code i b0 b1 b2)) = ((weight i b0 b1 b2 / 16 : ℝ) : EReal) :=
  e4m3fn_widen _ (code_lt i b0 b1 b2)

/-! ## The reference's decoding of a code -/

/-- The constant 1/16. -/
theorem f32_sixteenth : Ideal.ofBits .f32 0x3D800000#32 = ((1 / 16 : ℝ) : EReal) := by
  simp [Ideal.ofBits, Ideal.ieee, -EReal.coe_mul]; norm_num
/-- The constant 4. -/
theorem f32_four : Ideal.ofBits .f32 0x40800000#32 = ((4 : ℝ) : EReal) := by
  simp [Ideal.ofBits, Ideal.ieee, -EReal.coe_mul]; norm_num
/-- The constant 1/32. -/
theorem f32_thirtysecond : Ideal.ofBits .f32 0x3D000000#32 = ((1 / 32 : ℝ) : EReal) := by
  simp [Ideal.ofBits, Ideal.ieee, -EReal.coe_mul]; norm_num
/-- The constant 2. -/
theorem f32_two : Ideal.ofBits .f32 0x40000000#32 = ((2 : ℝ) : EReal) := by
  simp [Ideal.ofBits, Ideal.ieee, -EReal.coe_mul]; norm_num
/-- The constant 1. -/
theorem f32_one : Ideal.ofBits .f32 0x3F800000#32 = ((1 : ℝ) : EReal) := by
  simp [Ideal.ofBits, Ideal.ieee, -EReal.coe_mul]; norm_num
/-- The constant 16. -/
theorem f32_sixteen : Ideal.ofBits .f32 0x41800000#32 = ((16 : ℝ) : EReal) := by
  simp [Ideal.ofBits, Ideal.ieee, -EReal.coe_mul]; norm_num

/-- The reference's decoding of one code, operation by operation. -/
def hostDecode (c : BitVec 32) : EReal :=
  (Ideal.ofBits .f32 0x3F800000#32 - Ideal.ofBits .f32 0x40000000#32 * (((IntOp.shrui .host c 5#32).toNat : ℝ) : EReal))
    * Scalar.select (IntOp.cmpi .eq (IntOp.andi (IntOp.shrui .host c 2#32) 7#32) 0#32)
        ((((IntOp.andi c 3#32).toNat : ℝ) : EReal) * Ideal.ofBits .f32 0x3D800000#32)
        ((Ideal.ofBits .f32 0x40800000#32 + (((IntOp.andi c 3#32).toNat : ℝ) : EReal))
          * (((IntOp.shli .host 1#32 (IntOp.andi (IntOp.shrui .host c 2#32) 7#32)).toInt : ℝ) : EReal)
          * Ideal.ofBits .f32 0x3D000000#32)

/-- It is the code's value. -/
theorem hostDecode_eq (c : BitVec 8) (hc : c.toNat < 64) : hostDecode (c.setWidth 32) = ((valueOf c.toNat : ℝ) : EReal) := by
  have h5 : ∀ n : Fin 64, (IntOp.shrui .host (BitVec.ofNat 32 n.val) 5#32).toNat = n.val / 32 := by decide
  have h2 : ∀ n : Fin 64, IntOp.cmpi .eq (IntOp.andi (IntOp.shrui .host (BitVec.ofNat 32 n.val) 2#32) 7#32) 0#32
      = BitVec.ofBool (decide (n.val / 4 % 8 = 0)) := by decide
  have h3 : ∀ n : Fin 64, (IntOp.andi (BitVec.ofNat 32 n.val) 3#32).toNat = n.val % 4 := by decide
  have h1 : ∀ n : Fin 64, (IntOp.shli .host 1#32 (IntOp.andi (IntOp.shrui .host (BitVec.ofNat 32 n.val) 2#32) 7#32)).toInt
      = ((2 ^ (n.val / 4 % 8) : ℕ) : ℤ) := by decide
  have ec : c.setWidth 32 = BitVec.ofNat 32 c.toNat := by
    apply BitVec.eq_of_toNat_eq; simp
  rw [ec]
  unfold hostDecode valueOf
  rw [h5 ⟨c.toNat, hc⟩, h2 ⟨c.toNat, hc⟩, h3 ⟨c.toNat, hc⟩, h1 ⟨c.toNat, hc⟩, f32_one, f32_two, f32_four, f32_sixteenth,
    f32_thirtysecond]
  dsimp only
  by_cases h : c.toNat / 4 % 8 = 0
  · simp only [h, Scalar.select, decide_true, if_true, BitVec.ofBool_true]
    simp only [EReal.coe_mul, EReal.coe_sub]
  · have hd : BitVec.ofBool (decide (c.toNat / 4 % 8 = 0)) ≠ 1 := by simp [h]
    rw [Scalar.select, if_neg hd, if_neg h]
    simp only [EReal.coe_mul, EReal.coe_sub, EReal.coe_add, Int.cast_natCast]

/-- The reference's word of three bytes. -/
def word (b0 b1 b2 : BitVec 8) : BitVec 32 := b0.setWidth 32 ||| (b1.setWidth 32 <<< 8) ||| (b2.setWidth 32 <<< 16)

/-- The reference's code of field `i`: six bits of the word, from bit `6 i`. -/
theorem word_code (i : Fin 4) (b0 b1 b2 : BitVec 8) :
    (word b0 b1 b2 >>> (6 * i.val)) &&& 63#32 = (code i b0 b1 b2).setWidth 32 := by
  apply BitVec.eq_of_getLsbD_eq
  intro p hp
  fin_cases i <;> interval_cases p <;>
    simp [word, code, BitVec.getLsbD_shiftLeft, BitVec.getLsbD_ushiftRight, BitVec.getLsbD_setWidth]

/-- The reference's decoding of field `i` of three bytes. -/
theorem hostDecode_word (i : Fin 4) (b0 b1 b2 : BitVec 8) :
    hostDecode ((word b0 b1 b2 >>> (6 * i.val)) &&& 63#32) = ((weight i b0 b1 b2 : ℝ) : EReal) := by
  rw [word_code]; exact hostDecode_eq _ (code_lt i b0 b1 b2)

end Cert.Fp6

end
-- ==== Proof.Ideal.Acc.lean ====
/- One point's step of the accumulator at the ideal values, at an index: what was there, or nothing at the first point of a
   sweep, plus the products of the point's block of activations with its block of weights, each weight a sixteenth. -/
module

public import proofs.«01_k».proof.Proof.Ideal.Step
public import proofs.«01_k».proof.Proof.Ideal.Decode
public import Idealize.ShloMosaic.Lib.MatmulPlain
public import Idealize.ShloMosaic.Lib.Pipeline.Value

@[expose] public section

set_option maxRecDepth 16384

noncomputable section

namespace Cert.KernelIdeal.Fp6

open Idealize.ShloMosaic Idealize.ShloMosaic.TcCoe Idealize.ShloMosaic.ValueIdx
open Cert.KernelIdeal Cert.KernelIdeal.Gen Cert.Fp6

/-! ## The words of a plane of bytes -/

/-- The words the kernel reads a plane of bytes as: four rows to a word. -/
def planeWords (p : Vec Ideal S1x1024x256 .i8) : IVec S256x256 32 :=
  bitcast S256x256 32 (shapeCast S1024x256 p shapeCasts_S1x1024x256_S1024x256 : IVec S1024x256 8) bitcasts_S1024x256_w8_S256x256_w32

/-- The row of words a row of bytes is in. -/
abbrev wrow (kk : Fin 1024) : Fin 256 := ⟨kk.val / 4, by have := kk.isLt; omega⟩

/-- A byte of a word of a plane. -/
theorem byteOf_planeWords (p : Vec Ideal S1x1024x256 .i8) (kk : Fin 1024) (l : Fin 256) :
    byteOf (kk.val % 4) (planeWords p (ix2 (wrow kk) l)) = p (ix3 0 kk l) := by
  unfold planeWords
  rw [byteOf_bitcast _ _ (wrow kk) l (kk.val % 4) (Nat.mod_lt _ (by decide)) kk (by show kk.val = 4 * (kk.val / 4) + kk.val % 4; omega)]
  rw [shapeCast_dropUnit_apply]
  refine congrArg p (funext fun a => ?_)
  match a with
  | ⟨0, _⟩ => rfl
  | ⟨1, _⟩ => rfl
  | ⟨2, _⟩ => rfl

/-- The matrix of eight-bit floats read off a matrix of words, widened. -/
def floatsOf (w : IVec S256x256 32) : FVec Ideal S1024x256 .bf16 :=
  extf .bf16 (bitcastToFloat .fp8e4m3 (bitcast S1024x256 8 w bitcasts_S256x256_w32_S1024x256_w8) : FVec Ideal S1024x256 .fp8e4m3)
    bitsLt_fp8e4m3_bf16

/-- It is, at an index, the float of a byte of a word. -/
theorem floatsOf_apply (w : IVec S256x256 32) (kk : Fin 1024) (l : Fin 256) :
    floatsOf w (ix2 kk l) = Ideal.ofBits .fp8e4m3 (byteOf (kk.val % 4) (w (ix2 (wrow kk) l))) :=
  congrArg (Ideal.ofBits .fp8e4m3) (bitcast_32_8_ix2 w _ (wrow kk) l (kk.val % 4) (Nat.mod_lt _ (by decide)) kk
    (by show kk.val = 4 * (kk.val / 4) + kk.val % 4; omega))

/-! ## The weights of the four fields -/

/-- The words of field `i`'s eight-bit floats, from the three planes. -/
def fieldWords : Fin 4 → Vec Ideal S1x1024x256 .i8 → Vec Ideal S1x1024x256 .i8 → Vec Ideal S1x1024x256 .i8 → IVec S256x256 32
  | 0, p0, _, _ => andi (k0_pay65 (F := Ideal) p0) (broadcast S256x256 3200171710#32)
  | 1, p0, p1, _ => andi (k0_pay66 (F := Ideal) p0 p1) (broadcast S256x256 3200171710#32)
  | 2, _, p1, p2 => andi (addi (k0_pay67 (F := Ideal) p1 p2) k0_pay68) (broadcast S256x256 3200171710#32)
  | 3, _, _, p2 => ori (andi (k0_pay64 (F := Ideal) p2) (broadcast S256x256 2155905152#32))
      (andi (shrui (k0_pay64 (F := Ideal) p2) (broadcast S256x256 1#32)) (broadcast S256x256 1044266558#32))

/-- The printed word is the byte 0x7E four times. -/
theorem lit_7E : (2122219134#32 : BitVec 32) = splat 0x7E#8 := by decide
/-- The printed word is the byte 0x40 four times. -/
theorem lit_40 : (1077952576#32 : BitVec 32) = splat 0x40#8 := by decide
/-- The printed word is the byte 0x78 four times. -/
theorem lit_78 : (2021161080#32 : BitVec 32) = splat 0x78#8 := by decide
/-- The printed word is the byte 0x06 four times. -/
theorem lit_06 : (101058054#32 : BitVec 32) = splat 0x06#8 := by decide
/-- The printed word is the byte 0x60 four times. -/
theorem lit_60 : (1616928864#32 : BitVec 32) = splat 0x60#8 := by decide
/-- The printed word is the byte 0x1E four times. -/
theorem lit_1E : (505290270#32 : BitVec 32) = splat 0x1E#8 := by decide
/-- The printed word is the byte 0xBE four times. -/
theorem lit_BE : (3200171710#32 : BitVec 32) = splat 0xBE#8 := by decide
/-- The printed word is the byte 0x80 four times. -/
theorem lit_80 : (2155905152#32 : BitVec 32) = splat 0x80#8 := by decide
/-- The printed word is the byte 0x3E four times. -/
theorem lit_3E : (1044266558#32 : BitVec 32) = splat 0x3E#8 := by decide

/-- A byte of a word of field `i`: the code of the three bytes there, widened. -/
theorem byteOf_fieldWords (i : Fin 4) (p0 p1 p2 : Vec Ideal S1x1024x256 .i8) (j : Nat) (hj : j < 4) (y : S256x256.Idx) :
    byteOf j (fieldWords i p0 p1 p2 y)
      = widen (code i (byteOf j (planeWords p0 y)) (byteOf j (planeWords p1 y)) (byteOf j (planeWords p2 y))) := by
  match i with
  | 0 =>
    rw [← swar0 j hj, ← lit_7E, ← lit_40, ← lit_BE]; rfl
  | 1 =>
    rw [← swar1 j hj, ← lit_78, ← lit_06, ← lit_40, ← lit_BE]; rfl
  | 2 =>
    rw [← swar2 j hj, ← lit_60, ← lit_1E, ← lit_40, ← lit_BE]; rfl
  | 3 =>
    rw [← swar3 j hj, ← lit_80, ← lit_3E]; rfl

/-- Field `i`'s weights as the kernel multiplies by them. -/
def fieldW (i : Fin 4) (x1 : Vec Ideal S3x1024x256 .i8) : FVec Ideal S1024x256 .bf16 :=
  floatsOf (fieldWords i (ldP0 x1) (ldP1 x1) (ldP2 x1))

/-- The first plane of the block at an index. -/
theorem ldP0_apply (x1 : Vec Ideal S3x1024x256 .i8) (kk : Fin 1024) (l : Fin 256) : ldP0 x1 (ix3 0 kk l) = x1 (ix3 0 kk l) := by
  refine congrArg x1 (funext fun a => Fin.ext ?_)
  match a with
  | ⟨0, _⟩ => rfl
  | ⟨1, _⟩ => show 0 + 1 * kk.val = kk.val; omega
  | ⟨2, _⟩ => show 0 + 1 * l.val = l.val; omega
/-- The second plane of the block at an index. -/
theorem ldP1_apply (x1 : Vec Ideal S3x1024x256 .i8) (kk : Fin 1024) (l : Fin 256) : ldP1 x1 (ix3 0 kk l) = x1 (ix3 1 kk l) := by
  refine congrArg x1 (funext fun a => Fin.ext ?_)
  match a with
  | ⟨0, _⟩ => rfl
  | ⟨1, _⟩ => show 0 + 1 * kk.val = kk.val; omega
  | ⟨2, _⟩ => show 0 + 1 * l.val = l.val; omega
/-- The third plane of the block at an index. -/
theorem ldP2_apply (x1 : Vec Ideal S3x1024x256 .i8) (kk : Fin 1024) (l : Fin 256) : ldP2 x1 (ix3 0 kk l) = x1 (ix3 2 kk l) := by
  refine congrArg x1 (funext fun a => Fin.ext ?_)
  match a with
  | ⟨0, _⟩ => rfl
  | ⟨1, _⟩ => show 0 + 1 * kk.val = kk.val; omega
  | ⟨2, _⟩ => show 0 + 1 * l.val = l.val; omega

/-- A weight of field `i`: a sixteenth of the value of the code the three planes hold there. -/
theorem fieldW_apply (i : Fin 4) (x1 : Vec Ideal S3x1024x256 .i8) (kk : Fin 1024) (l : Fin 256) :
    fieldW i x1 (ix2 kk l) = ((weight i (x1 (ix3 0 kk l)) (x1 (ix3 1 kk l)) (x1 (ix3 2 kk l)) / 16 : ℝ) : EReal) := by
  unfold fieldW
  rw [floatsOf_apply, byteOf_fieldWords i _ _ _ _ (Nat.mod_lt _ (by decide)), byteOf_planeWords, byteOf_planeWords,
    byteOf_planeWords, ofBits_widen_code, ldP0_apply, ldP1_apply, ldP2_apply]

/-! ## The step -/

/-- What a point stores into one slice of the accumulator. -/
def stepSlice (k : BitVec 32) (x0 : Vec Ideal S256x1024 .bf16) (w : FVec Ideal S1024x256 .bf16) (v : Vec Ideal S1x256x256 .f32) :
    FVec Ideal S1x256x256 .f32 :=
  shapeCast S1x256x256 (Scalar.select (Scalar.cmpi .eq k 0#32)
    (matmul dot_S256x1024_S1024x256_S256x256_1_0_0_1_n_n none (shapeCast S256x1024 (ldX x0) shapeCasts_S256x1024_S256x1024 : FVec Ideal S256x1024 .bf16) w
      (constant S256x256 .f32 0x00000000#32))
    (addf (shapeCast S256x256 v shapeCasts_S1x256x256_S256x256)
      (matmul dot_S256x1024_S1024x256_S256x256_1_0_0_1_n_n none (shapeCast S256x1024 (ldX x0) shapeCasts_S256x1024_S256x1024 : FVec Ideal S256x1024 .bf16) w
        (constant S256x256 .f32 0x00000000#32)))) shapeCasts_S256x256_S1x256x256

/-- The stores of a point, slice by slice. -/
theorem accPieces_eq (k : BitVec 32) (x0 : Vec Ideal S256x1024 .bf16) (x1 : Vec Ideal S3x1024x256 .i8) (xs : Vec Ideal S4x256x256 .f32) :
    accPieces k x0 x1 xs =
      [⟨Rect.unit ![3, 0, 0] ![1, 256, 256] inb_S4x256x256_S1x256x256_3_0_0, stepSlice k x0 (fieldW 3 x1)
          (View.ld xs (Rect.unit ![3, 0, 0] ![1, 256, 256] inb_S4x256x256_S1x256x256_3_0_0))⟩,
       ⟨Rect.unit ![2, 0, 0] ![1, 256, 256] inb_S4x256x256_S1x256x256_2_0_0, stepSlice k x0 (fieldW 2 x1)
          (View.ld xs (Rect.unit ![2, 0, 0] ![1, 256, 256] inb_S4x256x256_S1x256x256_2_0_0))⟩,
       ⟨Rect.unit ![1, 0, 0] ![1, 256, 256] inb_S4x256x256_S1x256x256_1_0_0, stepSlice k x0 (fieldW 1 x1)
          (View.ld xs (Rect.unit ![1, 0, 0] S1x256x256.size inb_S4x256x256_S1x256x256_1_0_0))⟩,
       ⟨Rect.unit ![0, 0, 0] S1x256x256.size inb_S4x256x256_S1x256x256_0_0_0, stepSlice k x0 (fieldW 0 x1)
          (View.ld xs (Rect.unit ![0, 0, 0] S1x256x256.size inb_S4x256x256_S1x256x256_0_0_0))⟩] := rfl

/-- The products of a point's blocks, field `i`, row `r`, lane `l`. -/
def blockSum (x0 : Vec Ideal S256x1024 .bf16) (x1 : Vec Ideal S3x1024x256 .i8) (i : Fin 4) (r l : Fin 256) : EReal :=
  ∑ kk : Fin 1024, x0 (ix2 r kk) * ((weight i (x1 (ix3 0 kk l)) (x1 (ix3 1 kk l)) (x1 (ix3 2 kk l)) / 16 : ℝ) : EReal)

/-- The block of activations is loaded whole. -/
theorem ldX_eq (x0 : Vec Ideal S256x1024 .bf16) : ldX x0 = x0 :=
  View.ld_unit_zero (by funext a; match a with | ⟨0, _⟩ => rfl | ⟨1, _⟩ => rfl) _ x0

/-- The product of the blocks at an index. -/
theorem dot_apply (x0 : Vec Ideal S256x1024 .bf16) (x1 : Vec Ideal S3x1024x256 .i8) (i : Fin 4) (r l : Fin 256) :
    matmul dot_S256x1024_S1024x256_S256x256_1_0_0_1_n_n none
        (shapeCast S256x1024 (ldX x0) shapeCasts_S256x1024_S256x1024 : FVec Ideal S256x1024 .bf16) (fieldW i x1)
        (constant (F := Ideal) S256x256 .f32 0x00000000#32) (ix2 r l) = blockSum x0 x1 i r l := by
  rw [shapeCast_self, ldX_eq]
  refine (Ideal.matmul_plain_apply (M := 256) (K := 1024) (N := 256) none x0 (fieldW i x1) _ r l).trans ?_
  have h0 : (constant (F := Ideal) S256x256 .f32 0x00000000#32) (ix2 r l) = 0 := Ideal.ofBits_zero_f32
  rw [h0, zero_add]
  exact Finset.sum_congr rfl fun kk _ => by rw [fieldW_apply]

/-- What a point stores into a slice, at an index. -/
theorem stepSlice_apply (k : BitVec 32) (x0 : Vec Ideal S256x1024 .bf16) (x1 : Vec Ideal S3x1024x256 .i8) (i : Fin 4)
    (v : Vec Ideal S1x256x256 .f32) (r l : Fin 256) :
    stepSlice k x0 (fieldW i x1) v (ix3 0 r l)
      = if k = 0#32 then blockSum x0 x1 i r l else v (ix3 0 r l) + blockSum x0 x1 i r l := by
  unfold stepSlice
  rw [shapeCast_addUnit_apply]
  have ej : (fun a : Fin 2 => (ix3 (0 : Fin 1) r l : (⟨3, ![1, 256, 256]⟩ : Shape).Idx) a.succ) = ix2 r l := by
    funext a; match a with | ⟨0, _⟩ => rfl | ⟨1, _⟩ => rfl
  have hv : (shapeCast S256x256 v shapeCasts_S1x256x256_S256x256 : FVec Ideal S256x256 .f32) (ix2 r l) = v (ix3 0 r l) := by
    rw [shapeCast_dropUnit_apply]
    refine congrArg v (funext fun a => ?_)
    match a with
    | ⟨0, _⟩ => rfl
    | ⟨1, _⟩ => rfl
    | ⟨2, _⟩ => rfl
  by_cases hk : k = 0#32
  · have hc : Scalar.cmpi .eq k 0#32 = 1 := by subst hk; decide
    rw [Scalar.select, if_pos hc, if_pos hk]
    refine Eq.trans (congrArg _ ej) (dot_apply x0 x1 i r l)
  · have hc : ¬ Scalar.cmpi .eq k 0#32 = 1 := by
      have hb : (k == 0#32) = false := beq_eq_false_iff_ne.mpr hk
      show ¬ BitVec.ofBool (k == 0#32) = 1
      rw [hb]; decide
    rw [Scalar.select, if_neg hc, if_neg hk]
    refine Eq.trans (congrArg _ ej) ?_
    rw [← dot_apply x0 x1 i r l, ← hv]
    rfl

/-- The accumulator after a point, as a function of the index. -/
def accG (k : BitVec 32) (x0 : Vec Ideal S256x1024 .bf16) (x1 : Vec Ideal S3x1024x256 .i8) (xs : Vec Ideal S4x256x256 .f32)
    (y : S4x256x256.Idx) : EReal :=
  if k = 0#32 then blockSum x0 x1 (y 0) (y 1) (y 2) else xs y + blockSum x0 x1 (y 0) (y 1) (y 2)

/-- The accumulator after a point, at an index. -/
theorem accStep_apply (k : BitVec 32) (x0 : Vec Ideal S256x1024 .bf16) (x1 : Vec Ideal S3x1024x256 .i8)
    (xs : Vec Ideal S4x256x256 .f32) (i : Fin 4) (r l : Fin 256) :
    accStep k x0 x1 xs (ix3 i r l)
      = if k = 0#32 then blockSum x0 x1 i r l else xs (ix3 i r l) + blockSum x0 x1 i r l := by
  have piece : ∀ (i : Fin 4) (inb : ∀ a, (![i.val, 0, 0] : Fin 3 → Nat) a + (![1, 256, 256] : Fin 3 → Nat) a ≤ S4x256x256.size a)
      (x : (Rect.unit (s := S4x256x256) ![i.val, 0, 0] ![1, 256, 256] inb).shape.Idx),
      stepSlice k x0 (fieldW i x1) (View.ld xs (Rect.unit (s := S4x256x256) ![i.val, 0, 0] ![1, 256, 256] inb)) x
        = accG k x0 x1 xs ((Rect.unit (s := S4x256x256) ![i.val, 0, 0] ![1, 256, 256] inb).emb x) := by
    intro i inb x
    have ex : x = ix3 (0 : Fin 1) (x 1) (x 2) := by
      funext a
      match a with
      | ⟨0, _⟩ => exact Subsingleton.elim (α := Fin 1) _ _
      | ⟨1, _⟩ => rfl
      | ⟨2, _⟩ => rfl
    have ee : (Rect.unit (s := S4x256x256) ![i.val, 0, 0] ![1, 256, 256] inb).emb (ix3 (0 : Fin 1) (x 1) (x 2)) = ix3 i (x 1) (x 2) := by
      funext a
      refine Fin.ext ?_
      match a with
      | ⟨0, _⟩ => show i.val + 1 * 0 = i.val; omega
      | ⟨1, _⟩ => show 0 + 1 * (x 1).val = (x 1).val; omega
      | ⟨2, _⟩ => show 0 + 1 * (x 2).val = (x 2).val; omega
    rw [ex]
    refine (stepSlice_apply k x0 x1 i _ (x 1) (x 2)).trans ?_
    have hl : View.ld xs (Rect.unit (s := S4x256x256) ![i.val, 0, 0] ![1, 256, 256] inb) (ix3 (0 : Fin 1) (x 1) (x 2))
        = xs (ix3 i (x 1) (x 2)) := congrArg xs ee
    rw [hl]
    exact (congrArg (accG k x0 x1 xs) ee).symm
  unfold accStep
  refine (View.canon_apply_of_pieces (accG k x0 x1 xs) _ ?_ (ix3 i r l) (accPieces_cover k x0 x1 xs _)).trans rfl
  rw [accPieces_eq]
  intro p hp
  simp only [List.mem_cons, List.not_mem_nil, or_false] at hp
  rcases hp with rfl | rfl | rfl | rfl
  · exact piece 3 inb_S4x256x256_S1x256x256_3_0_0
  · exact piece 2 inb_S4x256x256_S1x256x256_2_0_0
  · exact piece 1 inb_S4x256x256_S1x256x256_1_0_0
  · exact piece 0 inb_S4x256x256_S1x256x256_0_0_0

end Cert.KernelIdeal.Fp6

end
-- ==== Proof.Ideal.Out.lean ====
/- The output block a sweep leaves at the ideal values, at an index: the accumulator of the column's field and lane, by
   sixteen, by the column's scale. -/
module

public import proofs.«01_k».proof.Proof.Ideal.Step
public import proofs.«01_k».proof.Proof.Ideal.Decode
public import Idealize.ShloMosaic.Lib.MatmulPlain
public import Idealize.ShloMosaic.Lib.Pipeline.Value

@[expose] public section

set_option maxRecDepth 16384

noncomputable section

namespace Cert.KernelIdeal.Fp6

open Idealize.ShloMosaic Idealize.ShloMosaic.TcCoe Idealize.ShloMosaic.ValueIdx
open Cert.KernelIdeal Cert.KernelIdeal.Gen Cert.Fp6

/-! ## The scaled outputs of a field -/

/-- A field's accumulators scaled, at an index. -/
theorem scaled_apply (v : Vec Ideal S1x256x128 .f32) (s : Vec Ideal S1x128 .f32) (r : Fin 256) (l : Fin 128) :
    k0_pay8 (F := Ideal) v s (ix2 r l) = (v (ix3 0 r l) * ((16 : ℝ) : EReal)) * s (ix2 0 l) := by
  have hv : (shapeCast S256x128 v shapeCasts_S1x256x128_S256x128 : FVec Ideal S256x128 .f32) (ix2 r l) = v (ix3 0 r l) := by
    rw [shapeCast_dropUnit_apply]
    refine congrArg v (funext fun a => ?_)
    match a with
    | ⟨0, _⟩ => rfl
    | ⟨1, _⟩ => rfl
    | ⟨2, _⟩ => rfl
  have hs : (broadcastTo S256x128 (shapeCast S1x128 s shapeCasts_S1x128_S1x128 : FVec Ideal S1x128 .f32)
      broadcasts_S1x128_S256x128 : FVec Ideal S256x128 .f32) (ix2 r l) = s (ix2 0 l) := by
    rw [shapeCast_self]
    refine broadcastTo_apply s _ (ix2 r l) (ix2 0 l) fun a => ?_
    match a with
    | ⟨0, _⟩ => rfl
    | ⟨1, _⟩ => rfl
  show ((shapeCast S256x128 v shapeCasts_S1x256x128_S256x128 : FVec Ideal S256x128 .f32) (ix2 r l) * Ideal.ofBits .f32 0x41800000#32)
      * (broadcastTo S256x128 (shapeCast S1x128 s shapeCasts_S1x128_S1x128 : FVec Ideal S1x128 .f32)
      broadcasts_S1x128_S256x128 : FVec Ideal S256x128 .f32) (ix2 r l) = _
  rw [hv, hs, f32_sixteen]

/-- The scaled outputs of field `i` in the low (`h = 0`) or high (`h = 1`) half of the lanes. -/
def yv (a : Vec Ideal S4x256x256 .f32) (x2 : Vec Ideal S4x256 .f32) : Fin 2 → Fin 4 → FVec Ideal S256x128 .f32
  | 0, 0 => yLo0 a x2 | 0, 1 => yLo1 a x2 | 0, 2 => yLo2 a x2 | 0, 3 => yLo3 a x2
  | 1, 0 => yHi0 a x2 | 1, 1 => yHi1 a x2 | 1, 2 => yHi2 a x2 | 1, 3 => yHi3 a x2

/-- They are all scaled alike. -/
theorem yv_eq (a : Vec Ideal S4x256x256 .f32) (x2 : Vec Ideal S4x256 .f32) (h : Fin 2) (i : Fin 4)
    (ia : ∀ d, (![i.val, 0, 128 * h.val] : Fin 3 → Nat) d + S1x256x128.size d ≤ S4x256x256.size d)
    (is : ∀ d, (![i.val, 128 * h.val] : Fin 2 → Nat) d + S1x128.size d ≤ S4x256.size d) :
    yv a x2 h i = k0_pay8 (F := Ideal) (View.ld a (Rect.unit (s := S4x256x256) ![i.val, 0, 128 * h.val] S1x256x128.size ia))
      (View.ld x2 (Rect.unit (s := S4x256) ![i.val, 128 * h.val] S1x128.size is)) := by
  match h, i with
  | 0, 0 => rfl
  | 0, 1 => rfl
  | 0, 2 => rfl
  | 0, 3 => rfl
  | 1, 0 => rfl
  | 1, 1 => rfl
  | 1, 2 => rfl
  | 1, 3 => rfl

/-- A scaled output at an index. -/
theorem yv_apply (a : Vec Ideal S4x256x256 .f32) (x2 : Vec Ideal S4x256 .f32) (h : Fin 2) (i : Fin 4) (r : Fin 256) (l : Fin 128)
    (l' : Fin 256) (hl : l'.val = 128 * h.val + l.val) :
    yv a x2 h i (ix2 r l) = (a (ix3 i r l') * ((16 : ℝ) : EReal)) * x2 (ix2 i l') := by
  have hh := h.isLt
  have hi := i.isLt
  rw [yv_eq a x2 h i
    (fun d => by
      match d with
      | ⟨0, _⟩ => show i.val + 1 ≤ 4; omega
      | ⟨1, _⟩ => show 0 + 256 ≤ 256; omega
      | ⟨2, _⟩ => show 128 * h.val + 128 ≤ 256; omega)
    (fun d => by
      match d with
      | ⟨0, _⟩ => show i.val + 1 ≤ 4; omega
      | ⟨1, _⟩ => show 128 * h.val + 128 ≤ 256; omega), scaled_apply]
  refine congrArg₂ (fun u v : EReal => (u * ((16 : ℝ) : EReal)) * v) (congrArg a (funext fun d => Fin.ext ?_))
    (congrArg x2 (funext fun d => Fin.ext ?_))
  · match d with
    | ⟨0, _⟩ => show i.val + 1 * 0 = i.val; omega
    | ⟨1, _⟩ => show 0 + 1 * r.val = r.val; omega
    | ⟨2, _⟩ => show 128 * h.val + 1 * l.val = l'.val; omega
  · match d with
    | ⟨0, _⟩ => show i.val + 1 * 0 = i.val; omega
    | ⟨1, _⟩ => show 128 * h.val + 1 * l.val = l'.val; omega

/-! ## The interleave -/

/-- The lane a lane of an interleaved group gathers from, before a negative one is wrapped. -/
def laneT (q : BitVec 32) : IVec S256x128 32 := addi (shrui lanes (broadcast S256x128 2#32)) (broadcast S256x128 q)
/-- The gather of one field's outputs. -/
def gat (y : FVec Ideal S256x128 .f32) (q : BitVec 32) : FVec Ideal S256x128 .f32 :=
  dynamicGather 1 y (shapeCast S256x128 (shapeCast S256x128x1
    (select (cmpi .slt (laneT q) (broadcast S256x128 0#32)) (addi (laneT q) (broadcast S256x128 128#32)) (laneT q))
    shapeCasts_S256x128_S256x128x1) shapeCasts_S256x128x1_S256x128)
/-- The lane's field. -/
def laneF : IVec S256x128 32 := andi lanes (broadcast S256x128 3#32)
/-- One interleaved group of four fields' outputs. -/
def ilv (y : Fin 4 → FVec Ideal S256x128 .f32) (q : BitVec 32) : FVec Ideal S256x128 .bf16 :=
  truncf .bf16 (select (cmpi .slt laneF (broadcast S256x128 2#32))
    (select (cmpi .eq laneF (broadcast S256x128 0#32)) (gat (y 0) q) (gat (y 1) q))
    (select (cmpi .eq laneF (broadcast S256x128 2#32)) (gat (y 2) q) (gat (y 3) q)) : FVec Ideal S256x128 .f32) bitsLt_bf16_f32

/-- The lane numbers at an index. -/
theorem lanes_apply (r : Fin 256) (l : Fin 128) : lanes (ix2 r l) = BitVec.ofNat 32 l.val := by
  show BitVec.ofNat 32 (0 * 128 + l.val) = _
  rw [Nat.zero_mul, Nat.zero_add]

/-- The gathered lane as a number. -/
theorem laneIdx (q : Fin 4) (l : Fin 128) :
    (Scalar.select (IntOp.cmpi .slt (IntOp.addi (IntOp.shrui .vector (BitVec.ofNat 32 l.val) 2#32) (BitVec.ofNat 32 (32 * q.val))) 0#32)
      (IntOp.addi (IntOp.addi (IntOp.shrui .vector (BitVec.ofNat 32 l.val) 2#32) (BitVec.ofNat 32 (32 * q.val))) 128#32)
      (IntOp.addi (IntOp.shrui .vector (BitVec.ofNat 32 l.val) 2#32) (BitVec.ofNat 32 (32 * q.val)))).toNat % 128
      = 32 * q.val + l.val / 4 := by
  revert q l; decide +kernel

/-- A gather at an index. -/
theorem gat_apply (y : FVec Ideal S256x128 .f32) (q : Fin 4) (r : Fin 256) (l : Fin 128) (g : Fin 128)
    (hg : g.val = 32 * q.val + l.val / 4) : gat y (BitVec.ofNat 32 (32 * q.val)) (ix2 r l) = y (ix2 r g) := by
  unfold gat
  rw [shapeCast_shapeCast]
  refine congrArg y (funext fun b => Fin.ext ?_)
  match b with
  | ⟨0, _⟩ => rfl
  | ⟨1, _⟩ =>
    refine Eq.trans ?_ ((laneIdx q l).trans hg.symm)
    rw [← lanes_apply r l]
    rfl

/-- Whether a lane's column is of the first two fields. -/
theorem lane_slt (l : Fin 128) : IntOp.cmpi .slt (IntOp.andi (BitVec.ofNat 32 l.val) 3#32) 2#32 = BitVec.ofBool (decide (l.val % 4 < 2)) := by
  revert l; decide +kernel
/-- Whether a lane's column is of the first field. -/
theorem lane_eq0 (l : Fin 128) : IntOp.cmpi .eq (IntOp.andi (BitVec.ofNat 32 l.val) 3#32) 0#32 = BitVec.ofBool (decide (l.val % 4 = 0)) := by
  revert l; decide +kernel
/-- Whether a lane's column is of the third field. -/
theorem lane_eq2 (l : Fin 128) : IntOp.cmpi .eq (IntOp.andi (BitVec.ofNat 32 l.val) 3#32) 2#32 = BitVec.ofBool (decide (l.val % 4 = 2)) := by
  revert l; decide +kernel

/-- A select by a decided bit is an `if`. -/
theorem select_ofBool {α : Type} (p : Prop) [Decidable p] (a b : α) : Scalar.select (BitVec.ofBool (decide p)) a b = if p then a else b := by
  by_cases h : p <;> simp [Scalar.select, h]

/-- An interleaved group at an index: the lane's field, a quarter of the lane along. -/
theorem ilv_apply (y : Fin 4 → FVec Ideal S256x128 .f32) (q : Fin 4) (r : Fin 256) (l : Fin 128) (i : Fin 4) (hi : i.val = l.val % 4)
    (g : Fin 128) (hg : g.val = 32 * q.val + l.val / 4) :
    ilv y (BitVec.ofNat 32 (32 * q.val)) (ix2 r l) = y i (ix2 r g) := by
  show Scalar.select (IntOp.cmpi .slt (IntOp.andi (lanes (ix2 r l)) 3#32) 2#32)
    (Scalar.select (IntOp.cmpi .eq (IntOp.andi (lanes (ix2 r l)) 3#32) 0#32) (gat (y 0) _ (ix2 r l)) (gat (y 1) _ (ix2 r l)))
    (Scalar.select (IntOp.cmpi .eq (IntOp.andi (lanes (ix2 r l)) 3#32) 2#32) (gat (y 2) _ (ix2 r l)) (gat (y 3) _ (ix2 r l))) = _
  rw [lanes_apply, lane_slt, lane_eq0, lane_eq2, select_ofBool, select_ofBool, select_ofBool, gat_apply _ q r l g hg,
    gat_apply _ q r l g hg, gat_apply _ q r l g hg, gat_apply _ q r l g hg]
  have := i.isLt
  rcases (by omega : i.val = 0 ∨ i.val = 1 ∨ i.val = 2 ∨ i.val = 3) with h | h | h | h
  · obtain rfl : i = 0 := Fin.ext h
    rw [if_pos (by omega), if_pos (by omega)]
  · obtain rfl : i = 1 := Fin.ext h
    rw [if_pos (by omega), if_neg (by omega)]
  · obtain rfl : i = 2 := Fin.ext h
    rw [if_neg (by omega), if_pos (by omega)]
  · obtain rfl : i = 3 := Fin.ext h
    rw [if_neg (by omega), if_neg (by omega)]

/-! ## The block -/

/-- Group 0 of 128 output columns is the interleaving of its fields. -/
theorem grp0_eq (a : Vec Ideal S4x256x256 .f32) (x2 : Vec Ideal S4x256 .f32) : grp0 a x2 = ilv (yv a x2 0) (BitVec.ofNat 32 (32 * (0 : Fin 4).val)) := rfl
/-- Group 1 of 128 output columns is the interleaving of its fields. -/
theorem grp1_eq (a : Vec Ideal S4x256x256 .f32) (x2 : Vec Ideal S4x256 .f32) : grp1 a x2 = ilv (yv a x2 0) (BitVec.ofNat 32 (32 * (1 : Fin 4).val)) := rfl
/-- Group 2 of 128 output columns is the interleaving of its fields. -/
theorem grp2_eq (a : Vec Ideal S4x256x256 .f32) (x2 : Vec Ideal S4x256 .f32) : grp2 a x2 = ilv (yv a x2 0) (BitVec.ofNat 32 (32 * (2 : Fin 4).val)) := rfl
/-- Group 3 of 128 output columns is the interleaving of its fields. -/
theorem grp3_eq (a : Vec Ideal S4x256x256 .f32) (x2 : Vec Ideal S4x256 .f32) : grp3 a x2 = ilv (yv a x2 0) (BitVec.ofNat 32 (32 * (3 : Fin 4).val)) := rfl
/-- Group 4 of 128 output columns is the interleaving of its fields. -/
theorem grp4_eq (a : Vec Ideal S4x256x256 .f32) (x2 : Vec Ideal S4x256 .f32) : grp4 a x2 = ilv (yv a x2 1) (BitVec.ofNat 32 (32 * (0 : Fin 4).val)) := rfl
/-- Group 5 of 128 output columns is the interleaving of its fields. -/
theorem grp5_eq (a : Vec Ideal S4x256x256 .f32) (x2 : Vec Ideal S4x256 .f32) : grp5 a x2 = ilv (yv a x2 1) (BitVec.ofNat 32 (32 * (1 : Fin 4).val)) := rfl
/-- Group 6 of 128 output columns is the interleaving of its fields. -/
theorem grp6_eq (a : Vec Ideal S4x256x256 .f32) (x2 : Vec Ideal S4x256 .f32) : grp6 a x2 = ilv (yv a x2 1) (BitVec.ofNat 32 (32 * (2 : Fin 4).val)) := rfl
/-- Group 7 of 128 output columns is the interleaving of its fields. -/
theorem grp7_eq (a : Vec Ideal S4x256x256 .f32) (x2 : Vec Ideal S4x256 .f32) : grp7 a x2 = ilv (yv a x2 1) (BitVec.ofNat 32 (32 * (3 : Fin 4).val)) := rfl

/-- The field and the lane of a column of the block. -/
abbrev colF (y : Fin 1024) : Fin 4 := ⟨y.val % 4, Nat.mod_lt _ (by decide)⟩
/-- The lane of an output column of a block. -/
abbrev colL (y : Fin 1024) : Fin 256 := ⟨y.val / 4, by have := y.isLt; omega⟩

/-- The output block at an index. -/
theorem outBlock_apply (a : Vec Ideal S4x256x256 .f32) (x2 : Vec Ideal S4x256 .f32) (r : Fin 256) (y : Fin 1024) :
    outBlock a x2 (ix2 r y) = (a (ix3 (colF y) r (colL y)) * ((16 : ℝ) : EReal)) * x2 (ix2 (colF y) (colL y)) := by
  have piece : ∀ (h : Fin 2) (q : Fin 4) (o : Nat) (ho : o = 512 * h.val + 128 * q.val)
      (inb : ∀ d, (![0, o] : Fin 2 → Nat) d + (![256, 128] : Fin 2 → Nat) d ≤ S256x1024.size d)
      (x : (Rect.unit (s := S256x1024) ![0, o] ![256, 128] inb).shape.Idx),
      ilv (yv a x2 h) (BitVec.ofNat 32 (32 * q.val)) x
        = (fun z : S256x1024.Idx => (a (ix3 (colF (z 1)) (z 0) (colL (z 1))) * ((16 : ℝ) : EReal)) * x2 (ix2 (colF (z 1)) (colL (z 1))))
            ((Rect.unit (s := S256x1024) ![0, o] ![256, 128] inb).emb x) := by
    intro h q o ho inb x
    have hh := h.isLt
    have hq := q.isLt
    have hx : (x 1).val < 128 := (x 1).isLt
    have ee : (Rect.unit (s := S256x1024) ![0, o] ![256, 128] inb).emb x
        = ix2 (x 0) (⟨o + (x 1).val, by omega⟩ : Fin 1024) := by
      funext d
      refine Fin.ext ?_
      match d with
      | ⟨0, _⟩ => show 0 + 1 * (x 0).val = (x 0).val; omega
      | ⟨1, _⟩ => show o + 1 * (x 1).val = o + (x 1).val; omega
    have ex : x = ix2 (x 0) (x 1) := by
      funext d
      match d with
      | ⟨0, _⟩ => rfl
      | ⟨1, _⟩ => rfl
    rw [ee]
    refine (congrArg (ilv (yv a x2 h) (BitVec.ofNat 32 (32 * q.val))) ex).trans ?_
    refine (ilv_apply (yv a x2 h) q (x 0) (x 1) (colF ⟨o + (x 1).val, by omega⟩) (by show (o + (x 1).val) % 4 = (x 1).val % 4; omega)
      ⟨32 * q.val + (x 1).val / 4, by omega⟩ rfl).trans ?_
    exact yv_apply a x2 h _ (x 0) _ (colL ⟨o + (x 1).val, by omega⟩) (by
      show (o + (x 1).val) / 4 = 128 * h.val + (32 * q.val + (x 1).val / 4); omega)
  unfold outBlock
  refine (View.canon_apply_of_pieces (fun z : S256x1024.Idx =>
    (a (ix3 (colF (z 1)) (z 0) (colL (z 1))) * ((16 : ℝ) : EReal)) * x2 (ix2 (colF (z 1)) (colL (z 1)))) _ ?_ (ix2 r y)
    (outPieces_cover a x2 _)).trans rfl
  unfold outPieces
  rw [grp0_eq, grp1_eq, grp2_eq, grp3_eq, grp4_eq, grp5_eq, grp6_eq, grp7_eq]
  intro p hp
  simp only [List.mem_cons, List.not_mem_nil, or_false] at hp
  rcases hp with rfl | rfl | rfl | rfl | rfl | rfl | rfl | rfl
  · exact piece 1 3 896 rfl inb_S256x1024_S256x128_0_896
  · exact piece 1 2 768 rfl inb_S256x1024_S256x128_0_768
  · exact piece 1 1 640 rfl inb_S256x1024_S256x128_0_640
  · exact piece 1 0 512 rfl inb_S256x1024_S256x128_0_512
  · exact piece 0 3 384 rfl inb_S256x1024_S256x128_0_384
  · exact piece 0 2 256 rfl inb_S256x1024_S256x128_0_256
  · exact piece 0 1 128 rfl inb_S256x1024_S256x128_0_128
  · exact piece 0 0 0 rfl inb_S256x1024_S256x128_0_0

end Cert.KernelIdeal.Fp6

end
-- ==== Proof.Ideal.Sweep.lean ====
/- The accumulator along a sweep at the ideal values: after the step numbered `s` of a sweep it holds the products of the
   first `s + 1` blocks of the contraction; and what the output block makes of it after the last. -/
module

public import proofs.«01_k».proof.Proof.Ideal.Blocks
public import proofs.«01_k».proof.Proof.Ideal.Acc
public import proofs.«01_k».proof.Proof.Ideal.Out

@[expose] public section

set_option maxRecDepth 16384

noncomputable section

namespace Cert.KernelIdeal.Fp6

open Idealize.ShloMosaic Idealize.ShloMosaic.TcCoe Idealize.ShloMosaic.ValueIdx
open Cert.KernelIdeal Cert.KernelIdeal.Gen Cert.Fp6

/-! ## Sums -/

/-- A sum over the whole contraction, block by block. -/
theorem sum_blocks (f : Fin 13312 → EReal) :
    (∑ s : Fin 13, ∑ kk : Fin 1024, f (kIdx s.val s.isLt kk)) = ∑ k : Fin 13312, f k := by
  rw [← Equiv.sum_comp (finProdFinEquiv (m := 13) (n := 1024)) f, Fintype.sum_prod_type]
  refine Finset.sum_congr rfl fun s _ => Finset.sum_congr rfl fun kk _ => congrArg f (Fin.ext ?_)
  show 1024 * s.val + kk.val = kk.val + 1024 * s.val
  omega

/-- Sixteen times a sum of products with sixteenths is the sum of the products. -/
theorem sum_sixteenth {n : ℕ} (x : Fin n → EReal) (w : Fin n → ℝ) :
    (∑ k, x k * ((w k / 16 : ℝ) : EReal)) * ((16 : ℝ) : EReal) = ∑ k, x k * ((w k : ℝ) : EReal) := by
  have h0 : (0 : EReal) ≤ ((16 : ℝ) : EReal) := by exact_mod_cast (by norm_num : (0 : ℝ) ≤ 16)
  have ht : ((16 : ℝ) : EReal) ≠ ⊤ := EReal.coe_ne_top _
  have key : ∀ s : Finset (Fin n), (∑ k ∈ s, x k * ((w k / 16 : ℝ) : EReal)) * ((16 : ℝ) : EReal) = ∑ k ∈ s, x k * ((w k : ℝ) : EReal) := by
    intro s
    induction s using Finset.induction_on with
    | empty => simp
    | insert a s ha ih =>
      rw [Finset.sum_insert ha, Finset.sum_insert ha, EReal.right_distrib_of_nonneg_of_ne_top h0 ht, ih, mul_assoc, ← EReal.coe_mul,
        div_mul_cancel₀ _ (by norm_num : (16 : ℝ) ≠ 0)]
  exact key Finset.univ

/-! ## The sweep -/

variable (m : (ℓ : Loc nD τ sig) → Buf (Elt Ideal) ℓ)

/-- The weight of field `i` of the group at contraction index `k` and column `j` of groups. -/
abbrev wAt (c : Dev nD) (i : Fin 4) (k : Fin 13312) (j : Fin 4096) : ℝ :=
  weight i (argW m c (ix3 k j 0)) (argW m c (ix3 k j 1)) (argW m c (ix3 k j 2))

/-- The products of block `s` of the contraction for block `n` of the columns, each weight a sixteenth. -/
def part (c : Dev nD) (n : ℕ) (hn : n < 16) (i : Fin 4) (r l : Fin 256) (s : ℕ) (hs : s < 13) : EReal :=
  ∑ kk : Fin 1024, argX m c (ix3 r 0 (kIdx s hs kk)) * ((wAt m c i (kIdx s hs kk) (jIdx n hn l) / 16 : ℝ) : EReal)

/-- A point's block of products is that part of the contraction. -/
theorem blockSum_part (c : Dev nD) (t : Fin cfg0.N) (n : ℕ) (hn : n < 16) (s : ℕ) (hs : s < 13) (en : t.val / 13 = n) (es : t.val % 13 = s)
    (i : Fin 4) (r l : Fin 256) :
    blockSum (iblk m c 0 t) (iblk m c 1 t) i r l = part m c n hn i r l s hs := by
  subst en; subst es
  unfold blockSum part
  refine Finset.sum_congr rfl fun kk _ => ?_
  rw [iblk0_apply, iblk1_apply, iblk1_apply, iblk1_apply]

/-- One step of a sweep. -/
theorem stepAt_apply (c : Dev nD) (t : Fin cfg0.N) (n : ℕ) (hn : n < 16) (s : ℕ) (hs : s < 13) (en : t.val / 13 = n) (es : t.val % 13 = s)
    (xs : Vec Ideal S4x256x256 .f32) (i : Fin 4) (r l : Fin 256) :
    stepAt m c t xs (ix3 i r l) = if s = 0 then part m c n hn i r l s hs else xs (ix3 i r l) + part m c n hn i r l s hs := by
  unfold stepAt
  rw [accStep_apply, blockSum_part m c t n hn s hs en es, coord1, es]
  have hz : (BitVec.ofNat 32 s = 0#32) ↔ s = 0 := by
    constructor
    · intro h
      have := congrArg BitVec.toNat h
      rw [BitVec.toNat_ofNat] at this
      have h2 : s % 2 ^ 32 = 0 := this
      omega
    · rintro rfl; rfl
  simp only [hz]

/-- Point `n + 1` steps from what point `n` left. -/
theorem accAt_eq (c : Dev nD) (t : Fin cfg0.N) : ∃ xs, accAt m c t.val t.isLt = stepAt m c t xs
    ∧ ∀ k (hk : k < cfg0.N), t.val = k + 1 → xs = accAt m c k hk := by
  obtain ⟨t, ht⟩ := t
  cases t with
  | zero => exact ⟨_, rfl, fun k hk h => absurd h (Nat.succ_ne_zero k).symm⟩
  | succ t => exact ⟨_, rfl, fun k hk h => by
      have : t = k := Nat.succ.inj h
      subst this; rfl⟩

/-- After step `s` of the sweep for block `n` of the columns the accumulator holds the first `s + 1` parts. -/
theorem accAt_apply (c : Dev nD) (n : ℕ) (hn : n < 16) (i : Fin 4) (r l : Fin 256) : ∀ (s : ℕ) (hs : s < 13) (t : Fin cfg0.N), t.val = 13 * n + s →
    accAt m c t.val t.isLt (ix3 i r l) = ∑ q : Fin (s + 1), part m c n hn i r l q.val (by have := q.isLt; omega) := by
  intro s
  induction s with
  | zero =>
    intro hs t ht
    obtain ⟨xs, h, -⟩ := accAt_eq m c t
    rw [h, stepAt_apply m c t n hn 0 hs (by omega) (by omega), if_pos rfl, Fin.sum_univ_one]
    rfl
  | succ s ih =>
    intro hs t ht
    obtain ⟨xs, h, hx⟩ := accAt_eq m c t
    have hk : 13 * n + s < cfg0.N := lt_trans (by omega) t.isLt
    rw [h, stepAt_apply m c t n hn (s + 1) hs (by omega) (by omega), if_neg (Nat.succ_ne_zero s), hx (13 * n + s) hk (by omega),
      Fin.sum_univ_castSucc]
    exact congrArg (· + part m c n hn i r l (s + 1) hs) (ih (by omega) ⟨13 * n + s, hk⟩ rfl)

/-- What the kernel is to compute at row `r`, group `j` of the columns and field `i` of the group. -/
def kspec (c : Dev nD) (r : Fin 256) (j : Fin 4096) (i : Fin 4) : EReal :=
  (∑ k : Fin 13312, argX m c (ix3 r 0 k) * ((wAt m c i k j : ℝ) : EReal))
    * argS m c (ix1 ⟨4 * j.val + i.val, by have := j.isLt; have := i.isLt; omega⟩)

/-- What the last point of a sweep leaves in the output block. -/
theorem outAt_apply (c : Dev nD) (t : Fin cfg0.N) (h : t.val % 13 = 12) (r : Fin 256) (y : Fin 1024) :
    outBlock (accAt m c t.val t.isLt) (iblk m c 2 t) (ix2 r y) = kspec m c r (jIdx (t.val / 13) (div_lt t) (colL y)) (colF y) := by
  rw [outBlock_apply, iblk2_apply, accAt_apply m c (t.val / 13) (div_lt t) (colF y) r (colL y) 12 (by decide) t (by omega)]
  unfold kspec
  refine congrArg (· * _) ?_
  rw [← sum_sixteenth]
  refine congrArg (· * _) ?_
  exact sum_blocks fun k => argX m c (ix3 r 0 k) * ((wAt m c (colF y) k (jIdx (t.val / 13) (div_lt t) (colL y)) / 16 : ℝ) : EReal)

end Cert.KernelIdeal.Fp6

end
-- ==== Proof.Ideal.Value.lean ====
/- The kernel's result after the run at the ideal values: every entry of the array at what the sweeps leave in it, and the
   run with the result named. -/
module

public import proofs.«01_k».proof.Proof.Ideal.Sweep

@[expose] public section

set_option maxRecDepth 16384

noncomputable section

namespace Cert.KernelIdeal.Fp6

open Idealize.ShloMosaic Idealize.ShloMosaic.TcCoe Idealize.ShloMosaic.ValueIdx Idealize.ShloMosaic.Tactic
open Idealize.SL Idealize.SL.Sem
open Cert.KernelIdeal Cert.KernelIdeal.Gen Cert.Fp6

variable (m : (ℓ : Loc nD τ sig) → Buf (Elt Ideal) ℓ) (ρ : Dev nD → PrngReg)

/-- The group of an output column. -/
abbrev colJ (q : Fin 16384) : Fin 4096 := ⟨q.val / 4, by have := q.isLt; omega⟩
/-- The field of an output column. -/
abbrev colI (q : Fin 16384) : Fin 4 := ⟨q.val % 4, Nat.mod_lt _ (by decide)⟩

/-- The output array as the kernel is to leave it. -/
def G (c : Dev nD) : Vec Ideal S256x16384 .bf16 := fun y => kspec m c (y 0) (colJ (y 1)) (colI (y 1))

/-- What the last point of a sweep writes back is its block of `G`. -/
theorem flushed3_eq (c : Dev nD) (t : Fin cfg0.N) (hf : (cfg0.win 3).flush t = true) :
    (dats m 0 c).flushed 3 t = ((cfg0.win 3).blk t).view.read (Elt Ideal) (G m c) := by
  show (cfg0.win 3).cut (grid0.coords t) ((dats m 0 c).after 3 t) = _
  rw [after0_3]
  have hm : t.val % 13 = 12 := (flush0_3 t).mp hf
  obtain ⟨e0, e1⟩ := idx3 t
  funext y
  have hy0 : (y 0).val < 256 := (y 0).isLt
  have hy1 : (y 1).val < 1024 := (y 1).isLt
  have hb0 : (((cfg0.win 3).blk t).view.emb y 0).val = win0_3.index t (0 : Fin 2) * 256 + 1 * (y 0).val := rfl
  have hb1 : (((cfg0.win 3).blk t).view.emb y 1).val = win0_3.index t (1 : Fin 2) * 1024 + 1 * (y 1).val := rfl
  have hx : ((cfg0.win 3).xinj (grid0.coords t) y : S256x1024.Idx) = ix2 ⟨(y 0).val, hy0⟩ ⟨(y 1).val, hy1⟩ := by
    funext a
    match a with
    | ⟨0, _⟩ => rfl
    | ⟨1, _⟩ => rfl
  have he : (((cfg0.win 3).blk t).view.emb y : S256x16384.Idx)
      = ix2 ⟨(y 0).val, hy0⟩ ⟨1024 * (t.val / 13) + (y 1).val, by have := div_lt t; omega⟩ := funext fun a => Fin.ext (by
    match a with
    | ⟨0, _⟩ => refine hb0.trans ?_; show _ = (y 0).val; rw [e0]; omega
    | ⟨1, _⟩ => refine hb1.trans ?_; show _ = 1024 * (t.val / 13) + (y 1).val; rw [e1]; omega)
  show outBlock (accAt m c t.val t.isLt) (iblk m c 2 t) ((cfg0.win 3).xinj (grid0.coords t) y) = G m c (((cfg0.win 3).blk t).view.emb y)
  refine (congrArg (outBlock (accAt m c t.val t.isLt) (iblk m c 2 t)) hx).trans ?_
  refine Eq.trans ?_ (congrArg (G m c) he).symm
  rw [outAt_apply m c t hm]
  show kspec m c _ _ _ = kspec m c _ _ _
  have ej : (jIdx (t.val / 13) (div_lt t) (colL ⟨(y 1).val, hy1⟩)) = colJ ⟨1024 * (t.val / 13) + (y 1).val, by have := div_lt t; omega⟩ := Fin.ext (by
    show 256 * (t.val / 13) + (y 1).val / 4 = (1024 * (t.val / 13) + (y 1).val) / 4
    omega)
  have ei : colF ⟨(y 1).val, hy1⟩ = colI ⟨1024 * (t.val / 13) + (y 1).val, by have := div_lt t; omega⟩ := Fin.ext (by
    show (y 1).val % 4 = (1024 * (t.val / 13) + (y 1).val) % 4
    omega)
  rw [ej, ei]

/-- An index is in a point's output block exactly when each coordinate is in the block's range. -/
theorem mem_blk3 (t : Fin cfg0.N) (i : S256x16384.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v4).slice (win0_3.rect t)).set ↔ _
  rw [View.set_slice_whole, Rect.mem_set_unit]
  exact Iff.rfl

/-- Every index is in the block of a point that writes back. -/
theorem covered3 (i : S256x16384.Idx) : ∃ t : Fin cfg0.N, (cfg0.win 3).flush t = true ∧ i ∈ ((cfg0.win 3).blk t).view.set := by
  have hi0 : (i 0).val < 256 := (i 0).isLt
  have hi1 : (i 1).val < 16384 := (i 1).isLt
  have hN : 13 * ((i 1).val / 1024) + 12 < cfg0.N := lt_of_lt_of_eq (by omega) N_0.symm
  obtain ⟨e0, e1⟩ := idx3 ⟨13 * ((i 1).val / 1024) + 12, hN⟩
  have e1' : win0_3.index ⟨13 * ((i 1).val / 1024) + 12, hN⟩ (1 : Fin 2) = (i 1).val / 1024 := by
    rw [e1]; show (13 * ((i 1).val / 1024) + 12) / 13 = _; omega
  refine ⟨⟨13 * ((i 1).val / 1024) + 12, hN⟩, (flush0_3 _).mpr (by show (13 * ((i 1).val / 1024) + 12) % 13 = 12; omega), ?_⟩
  rw [mem_blk3]
  intro a
  match a with
  | ⟨0, _⟩ =>
    show win0_3.index _ (0 : Fin 2) * 256 ≤ (i 0).val ∧ (i 0).val < win0_3.index _ (0 : Fin 2) * 256 + 256
    rw [e0]; omega
  | ⟨1, _⟩ =>
    show win0_3.index _ (1 : Fin 2) * 1024 ≤ (i 1).val ∧ (i 1).val < win0_3.index _ (1 : Fin 2) * 1024 + 1024
    rw [e1']; omega

/-- The output array after the run. -/
theorem final3 (c : Dev nD) : (dats m 0 c).arrAt 3 cfg0.N = G m c :=
  (dats m 0 c).arrAt_eq_of_cover 3 _ (fun t hf => flushed3_eq m c t hf) (fun i => covered3 i)

/-- The result after the program's last line: the output array with its unit axis. -/
theorem tail_v5 (c : Dev nD) : Pipeline.afterTail₀ cfgs (dats m) 0 (V0 m) [hostOps1] c main_v5
    = shapeCast S256x1x16384 (G m c) shapeCasts_S256x16384_S256x1x16384 := by
  have h4 : Pipeline.withArrays spec0 c (V0 m c) (fun w => (dats m 0 c).arrAt w cfg0.N) (Proc.devRef .tc main_v4) = G m c :=
    (Pipeline.withArrays_arr spec0 launch0.win.arr_inj c (V0 m c) (fun w => (dats m 0 c).arrAt w cfg0.N) 3).trans (final3 m c)
  unfold Pipeline.afterTail₀
  simp only [List.flatten_cons, List.flatten_nil, List.append_nil]
  after_results
  exact congrArg (fun z : Vec Ideal S256x16384 .bf16 => shapeCast S256x1x16384 z shapeCasts_S256x16384_S256x1x16384) h4

/-- The run with the result named: at row `r` and column `q` it is `kspec`; the arguments are unchanged. -/
theorem run : θ_run defs (onTc (τ := τ) (main (F := Ideal))) ⟨m, fun _ => 0, ρ⟩ fun r => ∀ c : Dev nD,
      r.2.mem ((c.tc : Thread nD τ).loc main_v5) = shapeCast S256x1x16384 (G m c) shapeCasts_S256x16384_S256x1x16384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v5 (Pipeline.mem_restRefs_of main_v5 (by decide) (by decide))).trans (tail_v5 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

/-- The result at an index. -/
theorem result_apply (c : Dev nD) (r : Fin 256) (j : Fin 4096) (i : Fin 4) :
    (shapeCast S256x1x16384 (G m c) shapeCasts_S256x16384_S256x1x16384 : Vec Ideal S256x1x16384 .bf16)
      (ix3 r 0 ⟨4 * j.val + i.val, by have := j.isLt; have := i.isLt; omega⟩) = kspec m c r j i := by
  have hj := j.isLt
  have hi := i.isLt
  rw [matY_apply]
  show kspec m c r _ _ = _
  have ej : colJ ⟨4 * j.val + i.val, by omega⟩ = j := Fin.ext (by show (4 * j.val + i.val) / 4 = j.val; omega)
  have ei : colI ⟨4 * j.val + i.val, by omega⟩ = i := Fin.ext (by show (4 * j.val + i.val) % 4 = i.val; omega)
  exact congrArg₂ (kspec m c r) ej ei

end Cert.KernelIdeal.Fp6

end
-- ==== Proof.Ideal.Ref.lean ====
/- The reference: its frame, and its result at an index as a sum over the 13312 input features. -/
module

public import proofs.«01_k».proof.Defs
public import proofs.«01_k».proof.Proof.Gen.ReferenceIdeal.Read
public import proofs.«01_k».proof.Proof.Ideal.Decode
public import Idealize.ShloMosaic.Lib.Quiescent
public import Idealize.ShloMosaic.Lib.Claim

@[expose] public section

noncomputable section

namespace Cert.ReferenceIdeal.Fp6

open Cert.ReferenceIdeal Cert.ReferenceIdeal.Gen Cert.ReferenceIdeal.Read Cert.ReferenceIdeal.Value Cert.Fp6
open Idealize.ShloMosaic Idealize.ShloMosaic.TcCoe Idealize.SL.Sem Idealize.ShloMosaic.StableHlo

/-- The reference program leaves its arguments and every semaphore as they were. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (run m ρ)

/-! ## The weights of one field -/

/-- The codes of the field that starts at bit `s` of the word. -/
def refCode (s : BitVec 32) (x1 : (⟨S13312x4096x3, .i8⟩ : BufTy).Contents (Elt Ideal)) : (⟨S13312x4096, .i32⟩ : BufTy).Contents (Elt Ideal) :=
  andi (Host.shrui (val_main_v12 (F := Ideal) x1) (broadcastInDim S13312x4096 ![] bcast_S_S13312x4096 (constantI S_ 32 s)))
    (broadcastInDim S13312x4096 ![] bcast_S_S13312x4096 (constantI S_ 32 63#32))

/-- A scalar constant on every weight. -/
abbrev cF (b : BitVec 32) : (⟨S13312x4096, .f32⟩ : BufTy).Contents (Elt Ideal) :=
  broadcastInDim S13312x4096 ![] bcast_S_S13312x4096 (constant (F := Ideal) S_ .f32 b)
/-- A matrix of one word throughout. -/
abbrev cI (b : BitVec 32) : (⟨S13312x4096, .i32⟩ : BufTy).Contents (Elt Ideal) :=
  broadcastInDim S13312x4096 ![] bcast_S_S13312x4096 (constantI S_ 32 b)

/-- The reference's decoding of a matrix of codes. -/
def refDecode (c : (⟨S13312x4096, .i32⟩ : BufTy).Contents (Elt Ideal)) : (⟨S13312x4096, .bf16⟩ : BufTy).Contents (Elt Ideal) :=
  truncf .bf16 (mulf (subf (cF 0x3F800000#32) (mulf (cF 0x40000000#32) (uitofp (F := Ideal) .f32 (Host.shrui c (cI 5#32)))))
    (select (cmpi .eq (andi (Host.shrui c (cI 2#32)) (cI 7#32)) (cI 0#32))
      (mulf (uitofp (F := Ideal) .f32 (andi c (cI 3#32))) (cF 0x3D800000#32))
      (mulf (mulf (addf (cF 0x40800000#32) (uitofp (F := Ideal) .f32 (andi c (cI 3#32))))
        (sitofp (F := Ideal) .f32 (Host.shli (cI 1#32) (andi (Host.shrui c (cI 2#32)) (cI 7#32))))) (cF 0x3D000000#32)))) bitsLt_bf16_f32

/-- The weights of the first field are `refDecode` of its codes. -/
theorem v46_eq (x1 : (⟨S13312x4096x3, .i8⟩ : BufTy).Contents (Elt Ideal)) : val_main_v46 (F := Ideal) x1 = refDecode (refCode 0#32 x1) := rfl
/-- The weights of the second field are `refDecode` of its codes. -/
theorem v81_eq (x1 : (⟨S13312x4096x3, .i8⟩ : BufTy).Contents (Elt Ideal)) : val_main_v81 (F := Ideal) x1 = refDecode (refCode 6#32 x1) := rfl
/-- The weights of the third field are `refDecode` of its codes. -/
theorem v116_eq (x1 : (⟨S13312x4096x3, .i8⟩ : BufTy).Contents (Elt Ideal)) : val_main_v116 (F := Ideal) x1 = refDecode (refCode 12#32 x1) := rfl
/-- The weights of the fourth field are `refDecode` of its codes. -/
theorem v151_eq (x1 : (⟨S13312x4096x3, .i8⟩ : BufTy).Contents (Elt Ideal)) : val_main_v151 (F := Ideal) x1 = refDecode (refCode 18#32 x1) := rfl

/-- The reference's decoding at an index. -/
theorem refDecode_apply (c : (⟨S13312x4096, .i32⟩ : BufTy).Contents (Elt Ideal)) (i : S13312x4096.Idx) :
    refDecode c i = hostDecode (c i) := rfl

/-- The reference's word of three bytes at a position. -/
theorem v12_apply (x1 : (⟨S13312x4096x3, .i8⟩ : BufTy).Contents (Elt Ideal)) (k : Fin 13312) (n : Fin 4096) :
    val_main_v12 (F := Ideal) x1 (ValueIdx.ix2 k n) = word (x1 (ValueIdx.ix3 k n 0)) (x1 (ValueIdx.ix3 k n 1)) (x1 (ValueIdx.ix3 k n 2)) := by
  have hk := k.isLt
  have hn := n.isLt
  have e0 : idx_main_v1 (idx_main_v2 (ValueIdx.ix2 k n)) = ValueIdx.ix3 k n 0 := by
    funext a
    match a with
    | ⟨0, _⟩ => refine Fin.ext ?_; show (k.val * 4096 + n.val) / 4096 = k.val; omega
    | ⟨1, _⟩ => refine Fin.ext ?_; show (k.val * 4096 + n.val) / 1 % 4096 = n.val; omega
    | ⟨2, _⟩ => rfl
  have e1 : idx_main_v3 (idx_main_v4 (ValueIdx.ix2 k n)) = ValueIdx.ix3 k n 1 := by
    funext a
    match a with
    | ⟨0, _⟩ => refine Fin.ext ?_; show (k.val * 4096 + n.val) / 4096 = k.val; omega
    | ⟨1, _⟩ => refine Fin.ext ?_; show (k.val * 4096 + n.val) / 1 % 4096 = n.val; omega
    | ⟨2, _⟩ => rfl
  have e2 : idx_main_v8 (idx_main_v9 (ValueIdx.ix2 k n)) = ValueIdx.ix3 k n 2 := by
    funext a
    match a with
    | ⟨0, _⟩ => refine Fin.ext ?_; show (k.val * 4096 + n.val) / 4096 = k.val; omega
    | ⟨1, _⟩ => refine Fin.ext ?_; show (k.val * 4096 + n.val) / 1 % 4096 = n.val; omega
    | ⟨2, _⟩ => rfl
  rw [val_main_v12_apply, val_main_v7_apply, val_main_v2_apply, val_main_v1_apply, e0, val_main_v6_apply, val_main_v4_apply,
    val_main_v3_apply, e1, val_main_v11_apply, val_main_v9_apply, val_main_v8_apply, e2]
  rfl

/-- The shift amounts of the four fields. -/
theorem refCode_apply (i : Fin 4) (s : BitVec 32) (hs : s = BitVec.ofNat 32 (6 * i.val)) (x1 : (⟨S13312x4096x3, .i8⟩ : BufTy).Contents (Elt Ideal))
    (k : Fin 13312) (n : Fin 4096) :
    refDecode (refCode s x1) (ValueIdx.ix2 k n)
      = ((weight i (x1 (ValueIdx.ix3 k n 0)) (x1 (ValueIdx.ix3 k n 1)) (x1 (ValueIdx.ix3 k n 2)) : ℝ) : EReal) := by
  rw [refDecode_apply, ← hostDecode_word, ← v12_apply]
  congr 1
  subst hs
  show IntOp.andi (IntOp.shrui .host (val_main_v12 (F := Ideal) x1 (ValueIdx.ix2 k n)) (BitVec.ofNat 32 (6 * i.val))) 63#32 = _
  generalize val_main_v12 (F := Ideal) x1 (ValueIdx.ix2 k n) = w
  fin_cases i <;> rfl

/-! ## The result -/

/-- What both programs compute: at row `r` and column `4 j + i`, the sum over the input features of the activation times
    the weight that field `i` of the three bytes at column `j` encodes, times the column's scale. -/
def spec (x0 : S256x1x13312.Idx → EReal) (x1 : S13312x4096x3.Idx → BitVec 8) (x2 : S16384.Idx → EReal)
    (r : Fin 256) (j : Fin 4096) (i : Fin 4) : EReal :=
  (∑ k : Fin 13312, x0 (ValueIdx.ix3 r 0 k)
      * ((weight i (x1 (ValueIdx.ix3 k j 0)) (x1 (ValueIdx.ix3 k j 1)) (x1 (ValueIdx.ix3 k j 2)) : ℝ) : EReal))
    * x2 (ValueIdx.ix1 ⟨4 * j.val + i.val, by have := j.isLt; have := i.isLt; omega⟩)

/-- One field's product. -/
def refDot (s : BitVec 32) (x0 : (⟨S256x1x13312, .bf16⟩ : BufTy).Contents (Elt Ideal)) (x1 : (⟨S13312x4096x3, .i8⟩ : BufTy).Contents (Elt Ideal)) :
    (⟨S256x1x4096x1, .f32⟩ : BufTy).Contents (Elt Ideal) :=
  broadcastInDim S256x1x4096x1 ![0, 1, 2] bcast_S256x1x4096_S256x1x4096x1_0_1_2
    (Host.dotGeneral dot_S256x1x13312_S13312x4096_S256x1x4096_2_0_01_1_n_n none (F := Ideal) (φ₁ := .bf16) (φ₂ := .bf16) x0 (refDecode (refCode s x1)))

/-- The reference's product for one field at an index, a sum over the contraction. -/
theorem refDot_apply (i : Fin 4) (s : BitVec 32) (hs : s = BitVec.ofNat 32 (6 * i.val))
    (x0 : (⟨S256x1x13312, .bf16⟩ : BufTy).Contents (Elt Ideal)) (x1 : (⟨S13312x4096x3, .i8⟩ : BufTy).Contents (Elt Ideal))
    (r : Fin 256) (j : Fin 4096) :
    refDot s x0 x1 (ValueIdx.ix4 r 0 j 0) = ∑ k : Fin 13312, x0 (ValueIdx.ix3 r 0 k)
      * ((weight i (x1 (ValueIdx.ix3 k j 0)) (x1 (ValueIdx.ix3 k j 1)) (x1 (ValueIdx.ix3 k j 2)) : ℝ) : EReal) := by
  unfold refDot
  rw [broadcastInDim_apply _ bcast_S256x1x4096_S256x1x4096x1_0_1_2 _ (ValueIdx.ix4 r 0 j 0) (ValueIdx.ix3 r 0 j) (fun a => match a with
    | ⟨0, _⟩ => by show r.val = if (256 : Nat) = 1 then 0 else r.val; rw [if_neg (by decide)]
    | ⟨1, _⟩ => by show 0 = if (1 : Nat) = 1 then 0 else _; rw [if_pos rfl]
    | ⟨2, _⟩ => by show j.val = if (4096 : Nat) = 1 then 0 else j.val; rw [if_neg (by decide)])]
  simp only [Host.dotGeneral]
  rw [Ideal.dotGeneral_apply, ← Equiv.sum_comp (ValueIdx.contrEquiv1 dot_S256x1x13312_S13312x4096_S256x1x4096_2_0_01_1_n_n 13312 rfl rfl).symm]
  refine Finset.sum_congr rfl fun k _ => ?_
  have hk := ValueIdx.contrEquiv1_symm_val dot_S256x1x13312_S13312x4096_S256x1x4096_2_0_01_1_n_n 13312 rfl rfl k
  have el : dot_S256x1x13312_S13312x4096_S256x1x4096_2_0_01_1_n_n.lhsIdx (ValueIdx.ix3 r 0 j) ((ValueIdx.contrEquiv1 dot_S256x1x13312_S13312x4096_S256x1x4096_2_0_01_1_n_n 13312 rfl rfl).symm k) = ValueIdx.ix3 r 0 k := funext fun a => Fin.ext (by
    match a with
    | ⟨0, _⟩ => exact lhs_main_v47_0 _ _
    | ⟨1, _⟩ => exact lhs_main_v47_1 _ _
    | ⟨2, _⟩ => exact (lhs_main_v47_2 _ _).trans hk)
  have er : dot_S256x1x13312_S13312x4096_S256x1x4096_2_0_01_1_n_n.rhsIdx (ValueIdx.ix3 r 0 j) ((ValueIdx.contrEquiv1 dot_S256x1x13312_S13312x4096_S256x1x4096_2_0_01_1_n_n 13312 rfl rfl).symm k) = ValueIdx.ix2 k j := funext fun a => Fin.ext (by
    match a with
    | ⟨0, _⟩ => exact (rhs_main_v47_0 _ _).trans hk
    | ⟨1, _⟩ => exact rhs_main_v47_1 _ _)
  rw [el, er, refCode_apply i s hs]

/-- The four fields' products side by side. -/
theorem v157_apply (x0 : (⟨S256x1x13312, .bf16⟩ : BufTy).Contents (Elt Ideal)) (x1 : (⟨S13312x4096x3, .i8⟩ : BufTy).Contents (Elt Ideal))
    (r : Fin 256) (j : Fin 4096) (i : Fin 4) :
    val_main_v157 (F := Ideal) x0 x1 (ValueIdx.ix4 r 0 j i) = refDot (BitVec.ofNat 32 (6 * i.val)) x0 x1 (ValueIdx.ix4 r 0 j 0) := by
  have e : val_main_v157 (F := Ideal) x0 x1 = (concatenate S256x1x4096x4 3 [⟨S256x1x4096x1, refDot 0#32 x0 x1⟩,
      ⟨S256x1x4096x1, refDot 6#32 x0 x1⟩, ⟨S256x1x4096x1, refDot 12#32 x0 x1⟩, ⟨S256x1x4096x1, refDot 18#32 x0 x1⟩]
      concatenates_S256x1x4096x1_S256x1x4096x1_S256x1x4096x1_S256x1x4096x1_S256x1x4096x4_d3 :
        (⟨S256x1x4096x4, .f32⟩ : BufTy).Contents (Elt Ideal)) := rfl
  rw [e]
  refine concatenate_apply_piece 3 _ _ (ValueIdx.ix4 r 0 j i) i.val (by show i.val < 4; exact i.isLt) S256x1x4096x1 (refDot (BitVec.ofNat 32 (6 * i.val)) x0 x1) ?_ rfl
    i.val ?_ (ValueIdx.ix4 r 0 j 0) ?_ ?_
  · fin_cases i <;> rfl
  · fin_cases i <;> rfl
  · intro b hb
    match b with
    | ⟨0, _⟩ => rfl
    | ⟨1, _⟩ => rfl
    | ⟨2, _⟩ => rfl
    | ⟨3, _⟩ => exact absurd rfl hb
  · rfl

/-- The reference's result at row `r`, column `4 j + i`. -/
theorem v162_apply (x0 : (⟨S256x1x13312, .bf16⟩ : BufTy).Contents (Elt Ideal)) (x1 : (⟨S13312x4096x3, .i8⟩ : BufTy).Contents (Elt Ideal))
    (x2 : (⟨S16384, .f32⟩ : BufTy).Contents (Elt Ideal)) (r : Fin 256) (j : Fin 4096) (i : Fin 4) :
    val_main_v162 (F := Ideal) x0 x1 x2 (ValueIdx.ix3 r 0 ⟨4 * j.val + i.val, by have := j.isLt; have := i.isLt; omega⟩)
      = spec x0 x1 x2 r j i := by
  have hr := r.isLt
  have hj := j.isLt
  have hi := i.isLt
  rw [val_main_v162_apply, val_main_v161_apply, val_main_v158_apply, val_main_v160_apply, val_main_v159_apply]
  have e1 : idx_main_v158 (ValueIdx.ix3 r 0 ⟨4 * j.val + i.val, by omega⟩) = ValueIdx.ix4 r 0 j i := by
    funext a
    match a with
    | ⟨0, _⟩ => refine Fin.ext ?_; show ((r.val * 1 + 0) * 16384 + (4 * j.val + i.val)) / 16384 = r.val; omega
    | ⟨1, _⟩ => rfl
    | ⟨2, _⟩ => refine Fin.ext ?_; show ((r.val * 1 + 0) * 16384 + (4 * j.val + i.val)) / 4 % 4096 = j.val; omega
    | ⟨3, _⟩ => refine Fin.ext ?_; show ((r.val * 1 + 0) * 16384 + (4 * j.val + i.val)) % 4 = i.val; omega
  have e2 : idx_main_v159 (idx_main_v160 (ValueIdx.ix3 r 0 ⟨4 * j.val + i.val, by omega⟩)) = ValueIdx.ix1 ⟨4 * j.val + i.val, by omega⟩ := by
    funext a
    match a with
    | ⟨0, _⟩ => rfl
  rw [e1, e2, v157_apply, refDot_apply i _ rfl]
  rfl

end Cert.ReferenceIdeal.Fp6

end
-- ==== Proof.Ideal.Equation.lean ====
/- The equation: from equal arguments the kernel and the reference end with the same result. -/
module

public import proofs.«01_k».proof.Proof.Ideal.Value
public import proofs.«01_k».proof.Proof.Ideal.Ref

@[expose] public section

set_option maxRecDepth 16384

noncomputable section

namespace Cert.Fp6

open Idealize.ShloMosaic Idealize.ShloMosaic.TcCoe Idealize.ShloMosaic.ValueIdx
open Idealize.SL Idealize.SL.Sem

/-- Two results that agree at row `r`, column `4 j + i`, for every row, group and field, are equal. -/
theorem result_ext (a b : Vec Ideal Cert.KernelIdeal.S256x1x16384 .bf16)
    (h : ∀ (r : Fin 256) (j : Fin 4096) (i : Fin 4),
      a (ix3 r 0 ⟨4 * j.val + i.val, by have := j.isLt; have := i.isLt; omega⟩)
        = b (ix3 r 0 ⟨4 * j.val + i.val, by have := j.isLt; have := i.isLt; omega⟩)) : a = b := by
  funext y
  have h0 : (y 0).val < 256 := (y 0).isLt
  have h1 : (y 1).val < 1 := (y 1).isLt
  have h2 : (y 2).val < 16384 := (y 2).isLt
  have e : y = ix3 (⟨(y 0).val, h0⟩ : Fin 256) (0 : Fin 1)
      (⟨4 * (⟨(y 2).val / 4, by omega⟩ : Fin 4096).val + (⟨(y 2).val % 4, by omega⟩ : Fin 4).val, by show 4 * ((y 2).val / 4) + (y 2).val % 4 < 16384; omega⟩ : Fin 16384) :=
    funext fun d => Fin.ext (by
      match d with
      | ⟨0, _⟩ => rfl
      | ⟨1, _⟩ => show (y 1).val = 0; omega
      | ⟨2, _⟩ => show (y 2).val = 4 * ((y 2).val / 4) + (y 2).val % 4; omega)
  rw [e]
  exact h _ _ _

/-- The kernel's result is the reference's function of the arguments. -/
theorem kernel_eq_reference (m : (ℓ : Loc Cert.KernelIdeal.nD Cert.KernelIdeal.τ Cert.KernelIdeal.sig) → Buf (Elt Ideal) ℓ)
    (c : Dev Cert.KernelIdeal.nD) :
    (shapeCast Cert.KernelIdeal.S256x1x16384 (Cert.KernelIdeal.Fp6.G m c) Cert.KernelIdeal.Facts₀.shapeCasts_S256x16384_S256x1x16384 : Vec Ideal Cert.KernelIdeal.S256x1x16384 .bf16)
      = Cert.ReferenceIdeal.Read.val_main_v162 (F := Ideal) (Cert.KernelIdeal.Fp6.argX m c) (Cert.KernelIdeal.Fp6.argW m c) (Cert.KernelIdeal.Fp6.argS m c) := by
  refine result_ext _ _ fun r j i => ?_
  refine (Cert.KernelIdeal.Fp6.result_apply m c r j i).trans ?_
  refine Eq.trans ?_ (Cert.ReferenceIdeal.Fp6.v162_apply _ _ _ r j i).symm
  rfl

/-- The algebraic claim: from memories that agree at the arguments both programs terminate with one and the same result and
    leave their arguments unchanged. -/
theorem algebraic (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (h : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  refine ⟨_, Cert.KernelIdeal.Fp6.run m g, (θ_run _ _ _).mono (fun r hr c => ⟨?_, (hr c).2.1, (hr c).2.2.1, (hr c).2.2.2⟩) (Cert.ReferenceIdeal.Value.run (F := Ideal) m' g')⟩
  obtain ⟨h0, h1, h2⟩ := h c
  refine (hr c).1.trans (Eq.trans ?_ (kernel_eq_reference m c).symm)
  refine (Cert.ReferenceIdeal.Read.val_main_v162_eq (F := Ideal) (StableHlo.launchContents m' c)).trans ?_
  show Cert.ReferenceIdeal.Read.val_main_v162 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [h0, h1, h2]

end Cert.Fp6

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Words.Region
public import proofs.«01_k».proof.Proof.Ideal.Equation
public import Idealize.ShloMosaic.Adequacy
public import Idealize.ShloMosaic.Init

@[expose] public section

noncomputable section

namespace Cert.Proof

open Idealize.ShloMosaic Idealize.SL.Sem Cert.Kernel

/-- The three frames, the passage to the ideal program (no rewrite: nothing to show), and the equation. -/
theorem claim : Cert.Claim := ⟨Cert.Kernel.Gen.facts, Cert.KernelIdeal.Gen.facts, Cert.ReferenceIdeal.Gen.facts,
  fun m g _ => Cert.Kernel.Fp6.frame m g,
  fun m g _ => Cert.KernelIdeal.Fp6.frame m g,
  fun m g _ => Cert.ReferenceIdeal.Fp6.frame m g,
  trivial,
  fun m g m' g' _ h => Cert.Fp6.algebraic m g m' g' h⟩

end Cert.Proof

end
